-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "g4" .f32 0x3CDE5C35#32 ((15182095 / 559325504 : ℝ) : EReal)
  ∧ IdealRules.named_const.Statement Cert.KernelIdeal.κ "k55" .f32 0x38A2DAEB#32 ((89530560519481 / 1152921504606846976 : ℝ) : EReal)
  ∧ IdealRules.named_const.Statement Cert.KernelIdeal.κ "k44" .f32 0x3A41240D#32 ((230496008589025 / 312845019424854016 : ℝ) : EReal)
  ∧ IdealRules.named_const.Statement Cert.KernelIdeal.κ "k33" .f32 0x3B8AEE5C#32 ((76378178570521 / 18014398509481984 : ℝ) : EReal)
  ∧ IdealRules.named_const.Statement Cert.KernelIdeal.κ "k22" .f32 0x3C727565#32 ((66646503840361 / 4503599627370496 : ℝ) : EReal)
  ∧ IdealRules.named_const.Statement Cert.KernelIdeal.κ "k11" .f32 0x3D00523B#32 ((141090661229281 / 4503599627370496 : ℝ) : EReal)
  ∧ IdealRules.named_const.Statement Cert.KernelIdeal.κ "k00" .f32 0x3D24C487#32 ((181163981720089 / 4503599627370496 : ℝ) : EReal)
  ∧ IdealRules.named_const.Statement Cert.KernelIdeal.κ "d00" .f32 0x3DA4C487#32 ((181163981720089 / 2251799813685248 : ℝ) : EReal)
  ∧ IdealRules.named_const.Statement Cert.KernelIdeal.κ "m00" .f32 0xBD24C487#32 ((-181163981720089 / 4503599627370496 : ℝ) : EReal)
  ∧ IdealRules.named_const.Statement Cert.KernelIdeal.κ "n00" .f32 0xBDA4C487#32 ((-181163981720089 / 2251799813685248 : ℝ) : EReal)
  ∧ IdealRules.named_const.Statement Cert.KernelIdeal.κ "k01" .f32 0x3D11682F#32 ((159876658621003 / 4503599627370496 : ℝ) : EReal)
  ∧ IdealRules.named_const.Statement Cert.KernelIdeal.κ "d01" .f32 0x3D91682F#32 ((159876658621003 / 2251799813685248 : ℝ) : EReal)
  ∧ IdealRules.named_const.Statement Cert.KernelIdeal.κ "m01" .f32 0xBD11682F#32 ((-159876658621003 / 4503599627370496 : ℝ) : EReal)
  ∧ IdealRules.named_const.Statement Cert.KernelIdeal.κ "n01" .f32 0xBD91682F#32 ((-159876658621003 / 2251799813685248 : ℝ) : EReal)
  ∧ IdealRules.named_const.Statement Cert.KernelIdeal.κ "k02" .f32 0x3CC7DF91#32 ((109881508924127 / 4503599627370496 : ℝ) : EReal)
  ∧ IdealRules.named_const.Statement Cert.KernelIdeal.κ "d02" .f32 0x3D47DF91#32 ((109881508924127 / 2251799813685248 : ℝ) : EReal)
  ∧ IdealRules.named_const.Statement Cert.KernelIdeal.κ "m02" .f32 0xBCC7DF91#32 ((-109881508924127 / 4503599627370496 : ℝ) : EReal)
  ∧ IdealRules.named_const.Statement Cert.KernelIdeal.κ "n02" .f32 0xBD47DF91#32 ((-109881508924127 / 2251799813685248 : ℝ) : EReal)
  ∧ IdealRules.named_const.Statement Cert.KernelIdeal.κ "k03" .f32 0x3C55F80D#32 ((117630671792537 / 9007199254740992 : ℝ) : EReal)
  ∧ IdealRules.named_const.Statement Cert.KernelIdeal.κ "d03" .f32 0x3CD5F80D#32 ((117630671792537 / 4503599627370496 : ℝ) : EReal)
  ∧ IdealRules.named_const.Statement Cert.KernelIdeal.κ "m03" .f32 0xBC55F80D#32 ((-117630671792537 / 9007199254740992 : ℝ) : EReal)
  ∧ IdealRules.named_const.Statement Cert.KernelIdeal.κ "n03" .f32 0xBCD5F80D#32 ((-117630671792537 / 4503599627370496 : ℝ) : EReal)
  ∧ IdealRules.named_const.Statement Cert.KernelIdeal.κ "k04" .f32 0x3BB2641C#32 ((204346702167115 / 37535699179667456 : ℝ) : EReal)
  ∧ IdealRules.named_const.Statement Cert.KernelIdeal.κ "d04" .f32 0x3C32641C#32 ((204346702167115 / 18767849589833728 : ℝ) : EReal)
  ∧ IdealRules.named_const.Statement Cert.KernelIdeal.κ "m04" .f32 0xBBB2641C#32 ((-204346702167115 / 37535699179667456 : ℝ) : EReal)
  ∧ IdealRules.named_const.Statement Cert.KernelIdeal.κ "n04" .f32 0xBC32641C#32 ((-204346702167115 / 18767849589833728 : ℝ) : EReal)
  ∧ IdealRules.named_const.Statement Cert.KernelIdeal.κ "k05" .f32 0x3AE7A90E#32 ((127356636377303 / 72057594037927936 : ℝ) : EReal)
  ∧ IdealRules.named_const.Statement Cert.KernelIdeal.κ "d05" .f32 0x3B67A90E#32 ((127356636377303 / 36028797018963968 : ℝ) : EReal)
  ∧ IdealRules.named_const.Statement Cert.KernelIdeal.κ "m05" .f32 0xBAE7A90E#32 ((-127356636377303 / 72057594037927936 : ℝ) : EReal)
  ∧ IdealRules.named_const.Statement Cert.KernelIdeal.κ "n05" .f32 0xBB67A90E#32 ((-127356636377303 / 36028797018963968 : ℝ) : EReal)
  ∧ IdealRules.named_const.Statement Cert.KernelIdeal.κ "d11" .f32 0x3D80523B#32 ((141090661229281 / 2251799813685248 : ℝ) : EReal)
  ∧ IdealRules.named_const.Statement Cert.KernelIdeal.κ "m11" .f32 0xBD00523B#32 ((-141090661229281 / 4503599627370496 : ℝ) : EReal)
  ∧ IdealRules.named_const.Statement Cert.KernelIdeal.κ "n11" .f32 0xBD80523B#32 ((-141090661229281 / 2251799813685248 : ℝ) : EReal)
  ∧ IdealRules.named_const.Statement Cert.KernelIdeal.κ "k12" .f32 0x3CB06338#32 ((96970094851229 / 4503599627370496 : ℝ) : EReal)
  ∧ IdealRules.named_const.Statement Cert.KernelIdeal.κ "d12" .f32 0x3D306338#32 ((96970094851229 / 2251799813685248 : ℝ) : EReal)
  ∧ IdealRules.named_const.Statement Cert.KernelIdeal.κ "m12" .f32 0xBCB06338#32 ((-96970094851229 / 4503599627370496 : ℝ) : EReal)
  ∧ IdealRules.named_const.Statement Cert.KernelIdeal.κ "n12" .f32 0xBD306338#32 ((-96970094851229 / 2251799813685248 : ℝ) : EReal)
  ∧ IdealRules.named_const.Statement Cert.KernelIdeal.κ "k13" .f32 0x3C3CD3B2#32 ((103808707332299 / 9007199254740992 : ℝ) : EReal)
  ∧ IdealRules.named_const.Statement Cert.KernelIdeal.κ "d13" .f32 0x3CBCD3B2#32 ((103808707332299 / 4503599627370496 : ℝ) : EReal)
  ∧ IdealRules.named_const.Statement Cert.KernelIdeal.κ "m13" .f32 0xBC3CD3B2#32 ((-103808707332299 / 9007199254740992 : ℝ) : EReal)
  ∧ IdealRules.named_const.Statement Cert.KernelIdeal.κ "n13" .f32 0xBCBCD3B2#32 ((-103808707332299 / 4503599627370496 : ℝ) : EReal)
  ∧ IdealRules.named_const.Statement Cert.KernelIdeal.κ "k14" .f32 0x3B9D6DF7#32 ((180335338363105 / 37535699179667456 : ℝ) : EReal)
  ∧ IdealRules.named_const.Statement Cert.KernelIdeal.κ "d14" .f32 0x3C1D6DF7#32 ((180335338363105 / 18767849589833728 : ℝ) : EReal)
  ∧ IdealRules.named_const.Statement Cert.KernelIdeal.κ "m14" .f32 0xBB9D6DF7#32 ((-180335338363105 / 37535699179667456 : ℝ) : EReal)
  ∧ IdealRules.named_const.Statement Cert.KernelIdeal.κ "n14" .f32 0xBC1D6DF7#32 ((-180335338363105 / 18767849589833728 : ℝ) : EReal)
  ∧ IdealRules.named_const.Statement Cert.KernelIdeal.κ "k15" .f32 0x3ACC7088#32 ((112391841269381 / 72057594037927936 : ℝ) : EReal)
  ∧ IdealRules.named_const.Statement Cert.KernelIdeal.κ "d15" .f32 0x3B4C7088#32 ((112391841269381 / 36028797018963968 : ℝ) : EReal)
  ∧ IdealRules.named_const.Statement Cert.KernelIdeal.κ "m15" .f32 0xBACC7088#32 ((-112391841269381 / 72057594037927936 : ℝ) : EReal)
  ∧ IdealRules.named_const.Statement Cert.KernelIdeal.κ "n15" .f32 0xBB4C7088#32 ((-112391841269381 / 36028797018963968 : ℝ) : EReal)
  ∧ IdealRules.named_const.Statement Cert.KernelIdeal.κ "d22" .f32 0x3CF27565#32 ((66646503840361 / 2251799813685248 : ℝ) : EReal)
  ∧ IdealRules.named_const.Statement Cert.KernelIdeal.κ "m22" .f32 0xBC727565#32 ((-66646503840361 / 4503599627370496 : ℝ) : EReal)
  ∧ IdealRules.named_const.Statement Cert.KernelIdeal.κ "n22" .f32 0xBCF27565#32 ((-66646503840361 / 2251799813685248 : ℝ) : EReal)
  ∧ IdealRules.named_const.Statement Cert.KernelIdeal.κ "k23" .f32 0x3C01C75B#32 ((71346608688991 / 9007199254740992 : ℝ) : EReal)
  ∧ IdealRules.named_const.Statement Cert.KernelIdeal.κ "d23" .f32 0x3C81C75B#32 ((71346608688991 / 4503599627370496 : ℝ) : EReal)
  ∧ IdealRules.named_const.Statement Cert.KernelIdeal.κ "m23" .f32 0xBC01C75B#32 ((-71346608688991 / 9007199254740992 : ℝ) : EReal)
  ∧ IdealRules.named_const.Statement Cert.KernelIdeal.κ "n23" .f32 0xBC81C75B#32 ((-71346608688991 / 4503599627370496 : ℝ) : EReal)
  ∧ IdealRules.named_const.Statement Cert.KernelIdeal.κ "k24" .f32 0x3B586637#32 ((123942539596445 / 37535699179667456 : ℝ) : EReal)
  ∧ IdealRules.named_const.Statement Cert.KernelIdeal.κ "d24" .f32 0x3BD86637#32 ((123942539596445 / 18767849589833728 : ℝ) : EReal)
  ∧ IdealRules.named_const.Statement Cert.KernelIdeal.κ "m24" .f32 0xBB586637#32 ((-123942539596445 / 37535699179667456 : ℝ) : EReal)
  ∧ IdealRules.named_const.Statement Cert.KernelIdeal.κ "n24" .f32 0xBBD86637#32 ((-123942539596445 / 18767849589833728 : ℝ) : EReal)
  ∧ IdealRules.named_const.Statement Cert.KernelIdeal.κ "k25" .f32 0x3A8C8256#32 ((77245704382129 / 72057594037927936 : ℝ) : EReal)
  ∧ IdealRules.named_const.Statement Cert.KernelIdeal.κ "d25" .f32 0x3B0C8256#32 ((77245704382129 / 36028797018963968 : ℝ) : EReal)
  ∧ IdealRules.named_const.Statement Cert.KernelIdeal.κ "m25" .f32 0xBA8C8256#32 ((-77245704382129 / 72057594037927936 : ℝ) : EReal)
  ∧ IdealRules.named_const.Statement Cert.KernelIdeal.κ "n25" .f32 0xBB0C8256#32 ((-77245704382129 / 36028797018963968 : ℝ) : EReal)
  ∧ IdealRules.named_const.Statement Cert.KernelIdeal.κ "d33" .f32 0x3C0AEE5C#32 ((76378178570521 / 9007199254740992 : ℝ) : EReal)
  ∧ IdealRules.named_const.Statement Cert.KernelIdeal.κ "m33" .f32 0xBB8AEE5C#32 ((-76378178570521 / 18014398509481984 : ℝ) : EReal)
  ∧ IdealRules.named_const.Statement Cert.KernelIdeal.κ "n33" .f32 0xBC0AEE5C#32 ((-76378178570521 / 9007199254740992 : ℝ) : EReal)
  ∧ IdealRules.named_const.Statement Cert.KernelIdeal.κ "k35" .f32 0x3A166B11#32 ((82693295610199 / 144115188075855872 : ℝ) : EReal)
  ∧ IdealRules.named_const.Statement Cert.KernelIdeal.κ "d35" .f32 0x3A966B11#32 ((82693295610199 / 72057594037927936 : ℝ) : EReal)
  ∧ IdealRules.named_const.Statement Cert.KernelIdeal.κ "m35" .f32 0xBA166B11#32 ((-82693295610199 / 144115188075855872 : ℝ) : EReal)
  ∧ IdealRules.named_const.Statement Cert.KernelIdeal.κ "n35" .f32 0xBA966B11#32 ((-82693295610199 / 72057594037927936 : ℝ) : EReal)
  ∧ IdealRules.named_const.Statement Cert.KernelIdeal.κ "d44" .f32 0x3AC1240D#32 ((230496008589025 / 156422509712427008 : ℝ) : EReal)
  ∧ IdealRules.named_const.Statement Cert.KernelIdeal.κ "m44" .f32 0xBA41240D#32 ((-230496008589025 / 312845019424854016 : ℝ) : EReal)
  ∧ IdealRules.named_const.Statement Cert.KernelIdeal.κ "n44" .f32 0xBAC1240D#32 ((-230496008589025 / 156422509712427008 : ℝ) : EReal)
  ∧ IdealRules.named_const.Statement Cert.KernelIdeal.κ "k45" .f32 0x397AD088#32 ((143653878633605 / 600571186874679296 : ℝ) : EReal)
  ∧ IdealRules.named_const.Statement Cert.KernelIdeal.κ "d45" .f32 0x39FAD088#32 ((143653878633605 / 300285593437339648 : ℝ) : EReal)
  ∧ IdealRules.named_const.Statement Cert.KernelIdeal.κ "m45" .f32 0xB97AD088#32 ((-143653878633605 / 600571186874679296 : ℝ) : EReal)
  ∧ IdealRules.named_const.Statement Cert.KernelIdeal.κ "n45" .f32 0xB9FAD088#32 ((-143653878633605 / 300285593437339648 : ℝ) : EReal)
  ∧ IdealRules.named_const.Statement Cert.KernelIdeal.κ "d55" .f32 0x3922DAEB#32 ((89530560519481 / 576460752303423488 : ℝ) : EReal)
  ∧ IdealRules.named_const.Statement Cert.KernelIdeal.κ "m55" .f32 0xB8A2DAEB#32 ((-89530560519481 / 1152921504606846976 : ℝ) : EReal)
  ∧ IdealRules.named_const.Statement Cert.KernelIdeal.κ "n55" .f32 0xB922DAEB#32 ((-89530560519481 / 576460752303423488 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x1x32x32 : Shape := ⟨4, ![2, 1, 32, 32]⟩
abbrev S_ : Shape := ⟨0, ![]⟩

class Facts : Prop where
  bcast_S_S2x1x32x32 : S_.BroadcastsInDim S2x1x32x32 (![] : Fin 0 → Fin S2x1x32x32.rank)
  reducesTo_S2x1x32x32_S_d0_1_2_3 : S2x1x32x32.ReducesTo [0, 1, 2, 3] S_
  h_S_ : 0 < S_.numel

variable [Facts]

def fn {F : FTy → Type} [FloatOps F] (main_arg0 : FVec F S2x1x32x32 .f32) (main_arg1 : FVec F S2x1x32x32 .f32) (main_arg2 : FVec F S2x1x32x32 .f32) : IVec S_ 1 :=
  let main_cst : FVec F S_ .f32 := constant S_ .f32 0x7F800000#32
  let main_v0 : FVec F S2x1x32x32 .f32 := broadcastInDim S2x1x32x32 ![] bcast_S_S2x1x32x32 main_cst
  let main_v1 : IVec S2x1x32x32 1 := cmpf .olt main_arg0 main_v0
  let main_cst_0 : FVec F S_ .f32 := constant S_ .f32 0xFF800000#32
  let main_v2 : FVec F S2x1x32x32 .f32 := broadcastInDim S2x1x32x32 ![] bcast_S_S2x1x32x32 main_cst_0
  let main_v3 : IVec S2x1x32x32 1 := cmpf .ogt main_arg0 main_v2
  let main_v4 : IVec S2x1x32x32 1 := andi main_v1 main_v3
  let main_cst_1 : FVec F S_ .f32 := constant S_ .f32 0x43000000#32
  let main_v5 : FVec F S2x1x32x32 .f32 := broadcastInDim S2x1x32x32 ![] bcast_S_S2x1x32x32 main_cst_1
  let main_v6 : IVec S2x1x32x32 1 := cmpf .ole main_arg1 main_v5
  let main_v7 : IVec S2x1x32x32 1 := andi main_v4 main_v6
  let main_cst_2 : FVec F S_ .f32 := constant S_ .f32 0xC3000000#32
  let main_v8 : FVec F S2x1x32x32 .f32 := broadcastInDim S2x1x32x32 ![] bcast_S_S2x1x32x32 main_cst_2
  let main_v9 : IVec S2x1x32x32 1 := cmpf .oge main_arg1 main_v8
  let main_v10 : IVec S2x1x32x32 1 := andi main_v7 main_v9
  let main_c : IVec S_ 1 := constantI S_ 1 1#1
  let main_v11 : IVec S_ 1 := (fun x v => Host.reduce IntOp.andi x v reducesTo_S2x1x32x32_S_d0_1_2_3 h_S_) main_v10 main_c
  main_v11
-- ==== Kernel.lean ====
abbrev S2x1x32x32 : Shape := ⟨4, ![2, 1, 32, 32]⟩
abbrev S32x128 : Shape := ⟨2, ![32, 128]⟩
abbrev S2x32x32 : Shape := ⟨3, ![2, 32, 32]⟩
abbrev S1x1 : Shape := ⟨2, ![1, 1]⟩
abbrev S48x128 : Shape := ⟨2, ![48, 128]⟩
abbrev S84x48x128 : Shape := ⟨3, ![84, 48, 128]⟩
abbrev S24x48x128 : Shape := ⟨3, ![24, 48, 128]⟩
abbrev S1x32x32 : Shape := ⟨3, ![1, 32, 32]⟩
abbrev S32x32 : Shape := ⟨2, ![32, 32]⟩
abbrev S32x5 : Shape := ⟨2, ![32, 5]⟩
abbrev S32x123 : Shape := ⟨2, ![32, 123]⟩
abbrev S32x4 : Shape := ⟨2, ![32, 4]⟩
abbrev S32x124 : Shape := ⟨2, ![32, 124]⟩
abbrev S32x3 : Shape := ⟨2, ![32, 3]⟩
abbrev S32x125 : Shape := ⟨2, ![32, 125]⟩
abbrev S32x2 : Shape := ⟨2, ![32, 2]⟩
abbrev S32x126 : Shape := ⟨2, ![32, 126]⟩
abbrev S32x1 : Shape := ⟨2, ![32, 1]⟩
abbrev S32x127 : Shape := ⟨2, ![32, 127]⟩
abbrev S1x32x128 : Shape := ⟨3, ![1, 32, 128]⟩
abbrev S1x48x128 : Shape := ⟨3, ![1, 48, 128]⟩
abbrev S48x5 : Shape := ⟨2, ![48, 5]⟩
abbrev S48x123 : Shape := ⟨2, ![48, 123]⟩
abbrev S48x4 : Shape := ⟨2, ![48, 4]⟩
abbrev S48x124 : Shape := ⟨2, ![48, 124]⟩
abbrev S48x3 : Shape := ⟨2, ![48, 3]⟩
abbrev S48x125 : Shape := ⟨2, ![48, 125]⟩
abbrev S48x2 : Shape := ⟨2, ![48, 2]⟩
abbrev S48x126 : Shape := ⟨2, ![48, 126]⟩
abbrev S48x1 : Shape := ⟨2, ![48, 1]⟩
abbrev S48x127 : Shape := ⟨2, ![48, 127]⟩
abbrev S128 : Shape := ⟨1, ![128]⟩
abbrev S1x128 : Shape := ⟨2, ![1, 128]⟩
abbrev S1 : Shape := ⟨1, ![1]⟩

abbrev nBuf : Space → Nat
  | .hbm => 7
  | .vmem => 8
  | .smem => 0
  | _ => 0

abbrev bufTy : (tb : Table) → Fin (tcTables nBuf tb) → BufTy
  | .hbm, ⟨0, _⟩ => ⟨S2x1x32x32, .f32⟩
  | .hbm, ⟨1, _⟩ => ⟨S2x1x32x32, .f32⟩
  | .hbm, ⟨2, _⟩ => ⟨S2x1x32x32, .f32⟩
  | .hbm, ⟨3, _⟩ => ⟨S32x128, .f32⟩
  | .hbm, ⟨4, _⟩ => ⟨S2x32x32, .f32⟩
  | .hbm, ⟨5, _⟩ => ⟨S2x32x32, .f32⟩
  | .hbm, ⟨6, _⟩ => ⟨S1x1, .f32⟩
  | .local _ .vmem, ⟨0, _⟩ => ⟨S2x32x32, .f32⟩
  | .local _ .vmem, ⟨1, _⟩ => ⟨S2x32x32, .f32⟩
  | .local _ .vmem, ⟨2, _⟩ => ⟨S32x128, .f32⟩
  | .local _ .vmem, ⟨3, _⟩ => ⟨S1x1, .f32⟩
  | .local _ .vmem, ⟨4, _⟩ => ⟨S32x128, .f32⟩
  | .local _ .vmem, ⟨5, _⟩ => ⟨S48x128, .f32⟩
  | .local _ .vmem, ⟨6, _⟩ => ⟨S84x48x128, .f32⟩
  | .local _ .vmem, ⟨7, _⟩ => ⟨S24x48x128, .f32⟩
  | _, _ => ⟨S2x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
abbrev S2x1x32x32 : Shape := ⟨4, ![2, 1, 32, 32]⟩
abbrev S32x128 : Shape := ⟨2, ![32, 128]⟩
abbrev S2x32x32 : Shape := ⟨3, ![2, 32, 32]⟩
abbrev S1x1 : Shape := ⟨2, ![1, 1]⟩
abbrev S48x128 : Shape := ⟨2, ![48, 128]⟩
abbrev S84x48x128 : Shape := ⟨3, ![84, 48, 128]⟩
abbrev S24x48x128 : Shape := ⟨3, ![24, 48, 128]⟩
abbrev S1x32x32 : Shape := ⟨3, ![1, 32, 32]⟩
abbrev S32x32 : Shape := ⟨2, ![32, 32]⟩
abbrev S32x5 : Shape := ⟨2, ![32, 5]⟩
abbrev S32x123 : Shape := ⟨2, ![32, 123]⟩
abbrev S32x4 : Shape := ⟨2, ![32, 4]⟩
abbrev S32x124 : Shape := ⟨2, ![32, 124]⟩
abbrev S32x3 : Shape := ⟨2, ![32, 3]⟩
abbrev S32x125 : Shape := ⟨2, ![32, 125]⟩
abbrev S32x2 : Shape := ⟨2, ![32, 2]⟩
abbrev S32x126 : Shape := ⟨2, ![32, 126]⟩
abbrev S32x1 : Shape := ⟨2, ![32, 1]⟩
abbrev S32x127 : Shape := ⟨2, ![32, 127]⟩
abbrev S1x32x128 : Shape := ⟨3, ![1, 32, 128]⟩
abbrev S1x48x128 : Shape := ⟨3, ![1, 48, 128]⟩
abbrev S48x5 : Shape := ⟨2, ![48, 5]⟩
abbrev S48x123 : Shape := ⟨2, ![48, 123]⟩
abbrev S48x4 : Shape := ⟨2, ![48, 4]⟩
abbrev S48x124 : Shape := ⟨2, ![48, 124]⟩
abbrev S48x3 : Shape := ⟨2, ![48, 3]⟩
abbrev S48x125 : Shape := ⟨2, ![48, 125]⟩
abbrev S48x2 : Shape := ⟨2, ![48, 2]⟩
abbrev S48x126 : Shape := ⟨2, ![48, 126]⟩
abbrev S48x1 : Shape := ⟨2, ![48, 1]⟩
abbrev S48x127 : Shape := ⟨2, ![48, 127]⟩
abbrev S128 : Shape := ⟨1, ![128]⟩
abbrev S1x128 : Shape := ⟨2, ![1, 128]⟩
abbrev S1 : Shape := ⟨1, ![1]⟩

abbrev nBuf : Space → Nat
  | .hbm => 7
  | .vmem => 8
  | .smem => 0
  | _ => 0

abbrev bufTy : (tb : Table) → Fin (tcTables nBuf tb) → BufTy
  | .hbm, ⟨0, _⟩ => ⟨S2x1x32x32, .f32⟩
  | .hbm, ⟨1, _⟩ => ⟨S2x1x32x32, .f32⟩
  | .hbm, ⟨2, _⟩ => ⟨S2x1x32x32, .f32⟩
  | .hbm, ⟨3, _⟩ => ⟨S32x128, .f32⟩
  | .hbm, ⟨4, _⟩ => ⟨S2x32x32, .f32⟩
  | .hbm, ⟨5, _⟩ => ⟨S2x32x32, .f32⟩
  | .hbm, ⟨6, _⟩ => ⟨S1x1, .f32⟩
  | .local _ .vmem, ⟨0, _⟩ => ⟨S2x32x32, .f32⟩
  | .local _ .vmem, ⟨1, _⟩ => ⟨S2x32x32, .f32⟩
  | .local _ .vmem, ⟨2, _⟩ => ⟨S32x128, .f32⟩
  | .local _ .vmem, ⟨3, _⟩ => ⟨S1x1, .f32⟩
  | .local _ .vmem, ⟨4, _⟩ => ⟨S32x128, .f32⟩
  | .local _ .vmem, ⟨5, _⟩ => ⟨S48x128, .f32⟩
  | .local _ .vmem, ⟨6, _⟩ => ⟨S84x48x128, .f32⟩
  | .local _ .vmem, ⟨7, _⟩ => ⟨S24x48x128, .f32⟩
  | _, _ => ⟨S2x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "d00" => some ((181163981720089 / 2251799813685248 : ℝ) : EReal)
  | "d01" => some ((159876658621003 / 2251799813685248 : ℝ) : EReal)
  | "d02" => some ((109881508924127 / 2251799813685248 : ℝ) : EReal)
  | "d03" => some ((117630671792537 / 4503599627370496 : ℝ) : EReal)
  | "d04" => some ((204346702167115 / 18767849589833728 : ℝ) : EReal)
  | "d05" => some ((127356636377303 / 36028797018963968 : ℝ) : EReal)
  | "d11" => some ((141090661229281 / 2251799813685248 : ℝ) : EReal)
  | "d12" => some ((96970094851229 / 2251799813685248 : ℝ) : EReal)
  | "d13" => some ((103808707332299 / 4503599627370496 : ℝ) : EReal)
  | "d14" => some ((180335338363105 / 18767849589833728 : ℝ) : EReal)
  | "d15" => some ((112391841269381 / 36028797018963968 : ℝ) : EReal)
  | "d22" => some ((66646503840361 / 2251799813685248 : ℝ) : EReal)
  | "d23" => some ((71346608688991 / 4503599627370496 : ℝ) : EReal)
  | "d24" => some ((123942539596445 / 18767849589833728 : ℝ) : EReal)
  | "d25" => some ((77245704382129 / 36028797018963968 : ℝ) : EReal)
  | "d33" => some ((76378178570521 / 9007199254740992 : ℝ) : EReal)
  | "d35" => some ((82693295610199 / 72057594037927936 : ℝ) : EReal)
  | "d44" => some ((230496008589025 / 156422509712427008 : ℝ) : EReal)
  | "d45" => some ((143653878633605 / 300285593437339648 : ℝ) : EReal)
  | "d55" => some ((89530560519481 / 576460752303423488 : ℝ) : EReal)
  | "g4" => some ((15182095 / 559325504 : ℝ) : EReal)
  | "k00" => some ((181163981720089 / 4503599627370496 : ℝ) : EReal)
  | "k01" => some ((159876658621003 / 4503599627370496 : ℝ) : EReal)
  | "k02" => some ((109881508924127 / 4503599627370496 : ℝ) : EReal)
  | "k03" => some ((117630671792537 / 9007199254740992 : ℝ) : EReal)
  | "k04" => some ((204346702167115 / 37535699179667456 : ℝ) : EReal)
  | "k05" => some ((127356636377303 / 72057594037927936 : ℝ) : EReal)
  | "k11" => some ((141090661229281 / 4503599627370496 : ℝ) : EReal)
  | "k12" => some ((96970094851229 / 4503599627370496 : ℝ) : EReal)
  | "k13" => some ((103808707332299 / 9007199254740992 : ℝ) : EReal)
  | "k14" => some ((180335338363105 / 37535699179667456 : ℝ) : EReal)
  | "k15" => some ((112391841269381 / 72057594037927936 : ℝ) : EReal)
  | "k22" => some ((66646503840361 / 4503599627370496 : ℝ) : EReal)
  | "k23" => some ((71346608688991 / 9007199254740992 : ℝ) : EReal)
  | "k24" => some ((123942539596445 / 37535699179667456 : ℝ) : EReal)
  | "k25" => some ((77245704382129 / 72057594037927936 : ℝ) : EReal)
  | "k33" => some ((76378178570521 / 18014398509481984 : ℝ) : EReal)
  | "k35" => some ((82693295610199 / 144115188075855872 : ℝ) : EReal)
  | "k44" => some ((230496008589025 / 312845019424854016 : ℝ) : EReal)
  | "k45" => some ((143653878633605 / 600571186874679296 : ℝ) : EReal)
  | "k55" => some ((89530560519481 / 1152921504606846976 : ℝ) : EReal)
  | "m00" => some ((-181163981720089 / 4503599627370496 : ℝ) : EReal)
  | "m01" => some ((-159876658621003 / 4503599627370496 : ℝ) : EReal)
  | "m02" => some ((-109881508924127 / 4503599627370496 : ℝ) : EReal)
  | "m03" => some ((-117630671792537 / 9007199254740992 : ℝ) : EReal)
  | "m04" => some ((-204346702167115 / 37535699179667456 : ℝ) : EReal)
  | "m05" => some ((-127356636377303 / 72057594037927936 : ℝ) : EReal)
  | "m11" => some ((-141090661229281 / 4503599627370496 : ℝ) : EReal)
  | "m12" => some ((-96970094851229 / 4503599627370496 : ℝ) : EReal)
  | "m13" => some ((-103808707332299 / 9007199254740992 : ℝ) : EReal)
  | "m14" => some ((-180335338363105 / 37535699179667456 : ℝ) : EReal)
  | "m15" => some ((-112391841269381 / 72057594037927936 : ℝ) : EReal)
  | "m22" => some ((-66646503840361 / 4503599627370496 : ℝ) : EReal)
  | "m23" => some ((-71346608688991 / 9007199254740992 : ℝ) : EReal)
  | "m24" => some ((-123942539596445 / 37535699179667456 : ℝ) : EReal)
  | "m25" => some ((-77245704382129 / 72057594037927936 : ℝ) : EReal)
  | "m33" => some ((-76378178570521 / 18014398509481984 : ℝ) : EReal)
  | "m35" => some ((-82693295610199 / 144115188075855872 : ℝ) : EReal)
  | "m44" => some ((-230496008589025 / 312845019424854016 : ℝ) : EReal)
  | "m45" => some ((-143653878633605 / 600571186874679296 : ℝ) : EReal)
  | "m55" => some ((-89530560519481 / 1152921504606846976 : ℝ) : EReal)
  | "n00" => some ((-181163981720089 / 2251799813685248 : ℝ) : EReal)
  | "n01" => some ((-159876658621003 / 2251799813685248 : ℝ) : EReal)
  | "n02" => some ((-109881508924127 / 2251799813685248 : ℝ) : EReal)
  | "n03" => some ((-117630671792537 / 4503599627370496 : ℝ) : EReal)
  | "n04" => some ((-204346702167115 / 18767849589833728 : ℝ) : EReal)
  | "n05" => some ((-127356636377303 / 36028797018963968 : ℝ) : EReal)
  | "n11" => some ((-141090661229281 / 2251799813685248 : ℝ) : EReal)
  | "n12" => some ((-96970094851229 / 2251799813685248 : ℝ) : EReal)
  | "n13" => some ((-103808707332299 / 4503599627370496 : ℝ) : EReal)
  | "n14" => some ((-180335338363105 / 18767849589833728 : ℝ) : EReal)
  | "n15" => some ((-112391841269381 / 36028797018963968 : ℝ) : EReal)
  | "n22" => some ((-66646503840361 / 2251799813685248 : ℝ) : EReal)
  | "n23" => some ((-71346608688991 / 4503599627370496 : ℝ) : EReal)
  | "n24" => some ((-123942539596445 / 18767849589833728 : ℝ) : EReal)
  | "n25" => some ((-77245704382129 / 36028797018963968 : ℝ) : EReal)
  | "n33" => some ((-76378178570521 / 9007199254740992 : ℝ) : EReal)
  | "n35" => some ((-82693295610199 / 72057594037927936 : ℝ) : EReal)
  | "n44" => some ((-230496008589025 / 156422509712427008 : ℝ) : EReal)
  | "n45" => some ((-143653878633605 / 300285593437339648 : ℝ) : EReal)
  | "n55" => some ((-89530560519481 / 576460752303423488 : ℝ) : EReal)
  | _ => none

abbrev grid0 : Pipeline.Grid := .none

abbrev stage0_0 : Fin 1 → Memref sig .tc .vmem S2x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1x32x32 : Shape := ⟨4, ![2, 1, 32, 32]⟩
abbrev S_ : Shape := ⟨0, ![]⟩
abbrev S1024x1024 : Shape := ⟨2, ![1024, 1024]⟩
abbrev S1024x32x32 : Shape := ⟨3, ![1024, 32, 32]⟩
abbrev S1x1024x32x32 : Shape := ⟨4, ![1, 1024, 32, 32]⟩
abbrev S2x1024x32x32 : Shape := ⟨4, ![2, 1024, 32, 32]⟩
abbrev S2x1x1024x32x32 : Shape := ⟨5, ![2, 1, 1024, 32, 32]⟩
abbrev S2x2x1024x32x32 : Shape := ⟨5, ![2, 2, 1024, 32, 32]⟩
abbrev S2x1x1x32x32 : Shape := ⟨5, ![2, 1, 1, 32, 32]⟩
abbrev S32x32 : Shape := ⟨2, ![32, 32]⟩
abbrev S2x2x1024 : Shape := ⟨3, ![2, 2, 1024]⟩
abbrev S2x1x1024 : Shape := ⟨3, ![2, 1, 1024]⟩
abbrev S1x1 : Shape := ⟨2, ![1, 1]⟩

abbrev nBuf : Space → Nat
  | .hbm => 241
  | .vmem => 0
  | .smem => 0
  | _ => 0

abbrev hbmTy0_0 (i : Nat) : BufTy := match i % 128 with
  | 0 => ⟨S2x1x32x32, .f32⟩
  | 1 => ⟨S2x1x32x32, .f32⟩
  | 2 => ⟨S2x1x32x32, .f32⟩
  | 3 => ⟨S2x1x32x32, .f32⟩
  | 4 => ⟨S2x1x32x32, .i1⟩
  | 5 => ⟨S_, .f32⟩
  | 6 => ⟨S_, .f32⟩
  | 7 => ⟨S2x1x32x32, .f32⟩
  | 8 => ⟨S2x1x32x32, .f32⟩
  | 9 => ⟨S2x1x32x32, .f32⟩
  | 10 => ⟨S1024x1024, .i32⟩
  | 11 => ⟨S1024x1024, .i32⟩
  | 12 => ⟨S_, .i32⟩
  | 13 => ⟨S1024x1024, .i32⟩
  | 14 => ⟨S1024x1024, .i32⟩
  | 15 => ⟨S1024x1024, .i1⟩
  | 16 => ⟨S1024x1024, .f32⟩
  | 17 => ⟨S1024x32x32, .f32⟩
  | 18 => ⟨S_, .f32⟩
  | 19 => ⟨S1024x32x32, .f32⟩
  | 20 => ⟨S1024x32x32, .f32⟩
  | 21 => ⟨S1x1024x32x32, .f32⟩
  | 22 => ⟨S2x1x32x32, .f32⟩
  | 23 => ⟨S2x1024x32x32, .f32⟩
  | 24 => ⟨S2x1024x32x32, .f32⟩
  | 25 => ⟨S2x1024x32x32, .f32⟩
  | 26 => ⟨S1x1024x32x32, .f32⟩
  | 27 => ⟨S2x1024x32x32, .f32⟩
  | 28 => ⟨S2x1024x32x32, .f32⟩
  | 29 => ⟨S2x1x1024x32x32, .f32⟩
  | 30 => ⟨S2x1x1024x32x32, .f32⟩
  | 31 => ⟨S2x2x1024x32x32, .f32⟩
  | 32 => ⟨S2x1x1x32x32, .f32⟩
  | 33 => ⟨S2x2x1024x32x32, .f32⟩
  | 34 => ⟨S32x32, .i32⟩
  | 35 => ⟨S32x32, .i32⟩
  | 36 => ⟨S32x32, .i32⟩
  | 37 => ⟨S_, .f32⟩
  | 38 => ⟨S_, .f32⟩
  | 39 => ⟨S_, .f32⟩
  | 40 => ⟨S_, .f32⟩
  | 41 => ⟨S32x32, .f32⟩
  | 42 => ⟨S_, .i32⟩
  | 43 => ⟨S32x32, .i32⟩
  | 44 => ⟨S32x32, .i1⟩
  | 45 => ⟨S_, .f32⟩
  | 46 => ⟨S_, .f32⟩
  | 47 => ⟨S32x32, .f32⟩
  | 48 => ⟨S32x32, .f32⟩
  | 49 => ⟨S_, .i32⟩
  | 50 => ⟨S32x32, .i32⟩
  | 51 => ⟨S32x32, .i1⟩
  | 52 => ⟨S32x32, .f32⟩
  | 53 => ⟨S32x32, .f32⟩
  | 54 => ⟨S_, .i32⟩
  | 55 => ⟨S32x32, .i32⟩
  | 56 => ⟨S32x32, .i1⟩
  | 57 => ⟨S_, .f32⟩
  | 58 => ⟨S_, .f32⟩
  | 59 => ⟨S32x32, .f32⟩
  | 60 => ⟨S32x32, .f32⟩
  | 61 => ⟨S_, .i32⟩
  | 62 => ⟨S32x32, .i32⟩
  | 63 => ⟨S32x32, .i1⟩
  | 64 => ⟨S_, .f32⟩
  | 65 => ⟨S_, .f32⟩
  | 66 => ⟨S32x32, .f32⟩
  | 67 => ⟨S32x32, .f32⟩
  | 68 => ⟨S_, .i32⟩
  | 69 => ⟨S32x32, .i32⟩
  | 70 => ⟨S32x32, .i1⟩
  | 71 => ⟨S_, .f32⟩
  | 72 => ⟨S_, .f32⟩
  | 73 => ⟨S32x32, .f32⟩
  | 74 => ⟨S32x32, .f32⟩
  | 75 => ⟨S_, .i32⟩
  | 76 => ⟨S32x32, .i32⟩
  | 77 => ⟨S32x32, .i1⟩
  | 78 => ⟨S_, .f32⟩
  | 79 => ⟨S_, .f32⟩
  | 80 => ⟨S32x32, .f32⟩
  | 81 => ⟨S32x32, .f32⟩
  | 82 => ⟨S_, .i32⟩
  | 83 => ⟨S32x32, .i32⟩
  | 84 => ⟨S32x32, .i1⟩
  | 85 => ⟨S_, .f32⟩
  | 86 => ⟨S_, .f32⟩
  | 87 => ⟨S32x32, .f32⟩
  | 88 => ⟨S32x32, .f32⟩
  | 89 => ⟨S_, .i32⟩
  | 90 => ⟨S32x32, .i32⟩
  | 91 => ⟨S32x32, .i1⟩
  | 92 => ⟨S_, .f32⟩
  | 93 => ⟨S_, .f32⟩
  | 94 => ⟨S32x32, .f32⟩
  | 95 => ⟨S32x32, .f32⟩
  | 96 => ⟨S_, .i32⟩
  | 97 => ⟨S32x32, .i32⟩
  | 98 => ⟨S32x32, .i1⟩
  | 99 => ⟨S_, .f32⟩
  | 100 => ⟨S_, .f32⟩
  | 101 => ⟨S32x32, .f32⟩
  | 102 => ⟨S32x32, .f32⟩
  | 103 => ⟨S_, .i32⟩
  | 104 => ⟨S32x32, .i32⟩
  | 105 => ⟨S32x32, .i1⟩
  | 106 => ⟨S32x32, .f32⟩
  | 107 => ⟨S32x32, .f32⟩
  | 108 => ⟨S_, .i32⟩
  | 109 => ⟨S32x32, .i32⟩
  | 110 => ⟨S32x32, .i1⟩
  | 111 => ⟨S_, .f32⟩
  | 112 => ⟨S_, .f32⟩
  | 113 => ⟨S32x32, .f32⟩
  | 114 => ⟨S32x32, .f32⟩
  | 115 => ⟨S2x2x1024x32x32, .f32⟩
  | 116 => ⟨S2x2x1024x32x32, .f32⟩
  | 117 => ⟨S2x2x1024x32x32, .f32⟩
  | 118 => ⟨S2x2x1024x32x32, .f32⟩
  | 119 => ⟨S2x2x1024x32x32, .f32⟩
  | 120 => ⟨S2x2x1024x32x32, .f32⟩
  | 121 => ⟨S2x2x1024x32x32, .f32⟩
  | 122 => ⟨S2x2x1024x32x32, .f32⟩
  | 123 => ⟨S_, .f32⟩
  | 124 => ⟨S2x2x1024, .f32⟩
  | 125 => ⟨S_, .f32⟩
  | 126 => ⟨S2x2x1024, .f32⟩
  | 127 => ⟨S2x2x1024, .f32⟩
  | _ => ⟨S2x1x32x32, .f32⟩

abbrev hbmTy0_1 (i : Nat) : BufTy := match i % 128 with
  | 0 => ⟨S2x2x1024x32x32, .f32⟩
  | 1 => ⟨S2x2x1024x32x32, .f32⟩
  | 2 => ⟨S2x2x1024x32x32, .f32⟩
  | 3 => ⟨S2x2x1024x32x32, .f32⟩
  | 4 => ⟨S2x2x1024x32x32, .f32⟩
  | 5 => ⟨S2x2x1024x32x32, .f32⟩
  | 6 => ⟨S2x2x1024x32x32, .f32⟩
  | 7 => ⟨S2x2x1024x32x32, .f32⟩
  | 8 => ⟨S2x2x1024x32x32, .f32⟩
  | 9 => ⟨S2x2x1024x32x32, .f32⟩
  | 10 => ⟨S2x2x1024x32x32, .f32⟩
  | 11 => ⟨S2x2x1024x32x32, .f32⟩
  | 12 => ⟨S2x2x1024x32x32, .f32⟩
  | 13 => ⟨S2x2x1024x32x32, .f32⟩
  | 14 => ⟨S2x2x1024x32x32, .f32⟩
  | 15 => ⟨S2x2x1024x32x32, .f32⟩
  | 16 => ⟨S2x2x1024x32x32, .f32⟩
  | 17 => ⟨S2x2x1024x32x32, .f32⟩
  | 18 => ⟨S_, .f32⟩
  | 19 => ⟨S2x2x1024x32x32, .f32⟩
  | 20 => ⟨S2x2x1024x32x32, .f32⟩
  | 21 => ⟨S2x2x1024x32x32, .f32⟩
  | 22 => ⟨S_, .f32⟩
  | 23 => ⟨S2x2x1024x32x32, .f32⟩
  | 24 => ⟨S2x2x1024x32x32, .f32⟩
  | 25 => ⟨S2x2x1024x32x32, .f32⟩
  | 26 => ⟨S2x2x1024x32x32, .f32⟩
  | 27 => ⟨S2x2x1024x32x32, .f32⟩
  | 28 => ⟨S_, .f32⟩
  | 29 => ⟨S2x2x1024x32x32, .f32⟩
  | 30 => ⟨S2x2x1024x32x32, .f32⟩
  | 31 => ⟨S2x2x1024x32x32, .f32⟩
  | 32 => ⟨S2x2x1024x32x32, .f32⟩
  | 33 => ⟨S_, .f32⟩
  | 34 => ⟨S2x2x1024x32x32, .f32⟩
  | 35 => ⟨S2x2x1024x32x32, .f32⟩
  | 36 => ⟨S_, .f32⟩
  | 37 => ⟨S2x2x1024x32x32, .f32⟩
  | 38 => ⟨S2x2x1024x32x32, .f32⟩
  | 39 => ⟨S2x2x1024x32x32, .f32⟩
  | 40 => ⟨S_, .f32⟩
  | 41 => ⟨S2x2x1024x32x32, .f32⟩
  | 42 => ⟨S2x2x1024x32x32, .f32⟩
  | 43 => ⟨S_, .f32⟩
  | 44 => ⟨S2x2x1024x32x32, .f32⟩
  | 45 => ⟨S2x2x1024x32x32, .f32⟩
  | 46 => ⟨S2x2x1024x32x32, .f32⟩
  | 47 => ⟨S_, .f32⟩
  | 48 => ⟨S2x2x1024x32x32, .f32⟩
  | 49 => ⟨S2x2x1024x32x32, .f32⟩
  | 50 => ⟨S2x2x1024x32x32, .f32⟩
  | 51 => ⟨S_, .f32⟩
  | 52 => ⟨S2x2x1024x32x32, .f32⟩
  | 53 => ⟨S2x2x1024x32x32, .f32⟩
  | 54 => ⟨S_, .f32⟩
  | 55 => ⟨S2x2x1024x32x32, .f32⟩
  | 56 => ⟨S2x2x1024x32x32, .f32⟩
  | 57 => ⟨S_, .f32⟩
  | 58 => ⟨S2x2x1024x32x32, .f32⟩
  | 59 => ⟨S2x2x1024x32x32, .f32⟩
  | 60 => ⟨S_, .f32⟩
  | 61 => ⟨S2x2x1024x32x32, .f32⟩
  | 62 => ⟨S2x2x1024x32x32, .f32⟩
  | 63 => ⟨S2x2x1024x32x32, .f32⟩
  | 64 => ⟨S2x2x1024x32x32, .f32⟩
  | 65 => ⟨S2x2x1024x32x32, .f32⟩
  | 66 => ⟨S2x2x1024x32x32, .f32⟩
  | 67 => ⟨S2x2x1024x32x32, .f32⟩
  | 68 => ⟨S2x2x1024x32x32, .f32⟩
  | 69 => ⟨S2x2x1024x32x32, .f32⟩
  | 70 => ⟨S2x2x1024x32x32, .f32⟩
  | 71 => ⟨S_, .f32⟩
  | 72 => ⟨S2x2x1024x32x32, .f32⟩
  | 73 => ⟨S2x2x1024x32x32, .f32⟩
  | 74 => ⟨S2x2x1024x32x32, .f32⟩
  | 75 => ⟨S_, .f32⟩
  | 76 => ⟨S2x2x1024x32x32, .f32⟩
  | 77 => ⟨S2x2x1024x32x32, .f32⟩
  | 78 => ⟨S_, .f32⟩
  | 79 => ⟨S_, .f32⟩
  | 80 => ⟨S_, .f32⟩
  | 81 => ⟨S2x2x1024x32x32, .f32⟩
  | 82 => ⟨S2x2x1024x32x32, .f32⟩
  | 83 => ⟨S_, .f32⟩
  | 84 => ⟨S2x2x1024x32x32, .f32⟩
  | 85 => ⟨S2x2x1024x32x32, .f32⟩
  | 86 => ⟨S2x2x1024x32x32, .f32⟩
  | 87 => ⟨S_, .f32⟩
  | 88 => ⟨S2x2x1024x32x32, .f32⟩
  | 89 => ⟨S2x2x1024x32x32, .f32⟩
  | 90 => ⟨S2x2x1024x32x32, .f32⟩
  | 91 => ⟨S_, .f32⟩
  | 92 => ⟨S2x2x1024, .f32⟩
  | 93 => ⟨S_, .f32⟩
  | 94 => ⟨S2x2x1024, .f32⟩
  | 95 => ⟨S2x2x1024, .f32⟩
  | 96 => ⟨S2x2x1024, .f32⟩
  | 97 => ⟨S_, .f32⟩
  | 98 => ⟨S2x2x1024, .f32⟩
  | 99 => ⟨S2x2x1024, .f32⟩
  | 100 => ⟨S2x2x1024, .f32⟩
  | 101 => ⟨S2x1x1024, .f32⟩
  | 102 => ⟨S_, .f32⟩
  | 103 => ⟨S2x1x1024, .f32⟩
  | 104 => ⟨S2x1x1024, .f32⟩
  | 105 => ⟨S2x2x1024, .f32⟩
  | 106 => ⟨S2x2x1024, .f32⟩
  | 107 => ⟨S_, .f32⟩
  | 108 => ⟨S_, .f32⟩
  | 109 => ⟨S_, .f32⟩
  | 110 => ⟨S_, .f32⟩
  | 111 => ⟨S_, .f32⟩
  | 112 => ⟨S1x1, .f32⟩
  | _ => ⟨S2x1x32x32, .f32⟩

abbrev hbmTy (i : Nat) : BufTy := match i / 128 with
  | 0 => hbmTy0_0 i
  | 1 => hbmTy0_1 i
  | _ => ⟨S2x1x32x32, .f32⟩

abbrev bufTy : (tb : Table) → Fin (tcTables nBuf tb) → BufTy
  | .hbm, ⟨i, _⟩ => hbmTy i
  | _, _ => ⟨S2x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_call2_v0 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_call3_v0 : Ref sig .tc := ⟨.hbm, 58, rfl⟩
abbrev main_call3_v1 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_cst_12 : Ref sig .tc := ⟨.hbm, 64, rfl⟩
abbrev main_call4_v0 : Ref sig .tc := ⟨.hbm, 65, rfl⟩
abbrev main_call4_v1 : Ref sig .tc := ⟨.hbm, 66, rfl⟩
abbrev main_v40 : Ref sig .tc := ⟨.hbm, 67, rfl⟩
abbrev main_c_13 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_call5_v0 : Ref sig .tc := ⟨.hbm, 72, rfl⟩
abbrev main_call5_v1 : Ref sig .tc := ⟨.hbm, 73, rfl⟩
abbrev main_v43 : Ref sig .tc := ⟨.hbm, 74, rfl⟩
abbrev main_c_15 : Ref sig .tc := ⟨.hbm, 75, rfl⟩
abbrev main_v44 : Ref sig .tc := ⟨.hbm, 76, rfl⟩
abbrev main_v45 : Ref sig .tc := ⟨.hbm, 77, rfl⟩
abbrev main_cst_16 : Ref sig .tc := ⟨.hbm, 78, rfl⟩
abbrev main_call6_v0 : Ref sig .tc := ⟨.hbm, 79, rfl⟩
abbrev main_call6_v1 : Ref sig .tc := ⟨.hbm, 80, rfl⟩
abbrev main_v46 : Ref sig .tc := ⟨.hbm, 81, rfl⟩
abbrev main_c_17 : Ref sig .tc := ⟨.hbm, 82, rfl⟩
abbrev main_v47 : Ref sig .tc := ⟨.hbm, 83, rfl⟩
abbrev main_v48 : Ref sig .tc := ⟨.hbm, 84, rfl⟩
abbrev main_cst_18 : Ref sig .tc := ⟨.hbm, 85, rfl⟩
abbrev main_call7_v0 : Ref sig .tc := ⟨.hbm, 86, rfl⟩
abbrev main_call7_v1 : Ref sig .tc := ⟨.hbm, 87, rfl⟩
abbrev main_v49 : Ref sig .tc := ⟨.hbm, 88, rfl⟩
abbrev main_c_19 : Ref sig .tc := ⟨.hbm, 89, rfl⟩
abbrev main_v50 : Ref sig .tc := ⟨.hbm, 90, rfl⟩
abbrev main_v51 : Ref sig .tc := ⟨.hbm, 91, rfl⟩
abbrev main_cst_20 : Ref sig .tc := ⟨.hbm, 92, rfl⟩
abbrev main_call8_v0 : Ref sig .tc := ⟨.hbm, 93, rfl⟩
abbrev main_call8_v1 : Ref sig .tc := ⟨.hbm, 94, rfl⟩
abbrev main_v52 : Ref sig .tc := ⟨.hbm, 95, rfl⟩
abbrev main_c_21 : Ref sig .tc := ⟨.hbm, 96, rfl⟩
abbrev main_v53 : Ref sig .tc := ⟨.hbm, 97, rfl⟩
abbrev main_v54 : Ref sig .tc := ⟨.hbm, 98, rfl⟩
abbrev main_cst_22 : Ref sig .tc := ⟨.hbm, 99, rfl⟩
abbrev main_call9_v0 : Ref sig .tc := ⟨.hbm, 100, rfl⟩
abbrev main_call9_v1 : Ref sig .tc := ⟨.hbm, 101, rfl⟩
abbrev main_v55 : Ref sig .tc := ⟨.hbm, 102, rfl⟩
abbrev main_c_23 : Ref sig .tc := ⟨.hbm, 103, rfl⟩
abbrev main_v56 : Ref sig .tc := ⟨.hbm, 104, rfl⟩
abbrev main_v57 : Ref sig .tc := ⟨.hbm, 105, rfl⟩
abbrev main_call10_v0 : Ref sig .tc := ⟨.hbm, 106, rfl⟩
abbrev main_v58 : Ref sig .tc := ⟨.hbm, 107, rfl⟩
abbrev main_c_24 : Ref sig .tc := ⟨.hbm, 108, rfl⟩
abbrev main_v59 : Ref sig .tc := ⟨.hbm, 109, rfl⟩
abbrev main_v60 : Ref sig .tc := ⟨.hbm, 110, rfl⟩
abbrev main_cst_25 : Ref sig .tc := ⟨.hbm, 111, rfl⟩
abbrev main_call11_v0 : Ref sig .tc := ⟨.hbm, 112, rfl⟩
abbrev main_call11_v1 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_26 : Ref sig .tc := ⟨.hbm, 123, rfl⟩
abbrev main_v70 : Ref sig .tc := ⟨.hbm, 124, rfl⟩
abbrev main_cst_27 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_28 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_29 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_30 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_31 : Ref sig .tc := ⟨.hbm, 161, rfl⟩
abbrev main_v103 : Ref sig .tc := ⟨.hbm, 162, rfl⟩
abbrev main_v104 : Ref sig .tc := ⟨.hbm, 163, rfl⟩
abbrev main_cst_32 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_33 : Ref sig .tc := ⟨.hbm, 168, rfl⟩
abbrev main_v108 : Ref sig .tc := ⟨.hbm, 169, rfl⟩
abbrev main_v109 : Ref sig .tc := ⟨.hbm, 170, rfl⟩
abbrev main_cst_34 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_35 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_36 : Ref sig .tc := ⟨.hbm, 179, rfl⟩
abbrev main_v116 : Ref sig .tc := ⟨.hbm, 180, rfl⟩
abbrev main_v117 : Ref sig .tc := ⟨.hbm, 181, rfl⟩
abbrev main_cst_37 : Ref sig .tc := ⟨.hbm, 182, rfl⟩
abbrev main_v118 : Ref sig .tc := ⟨.hbm, 183, rfl⟩
abbrev main_v119 : Ref sig .tc := ⟨.hbm, 184, rfl⟩
abbrev main_cst_38 : Ref sig .tc := ⟨.hbm, 185, rfl⟩
abbrev main_v120 : Ref sig .tc := ⟨.hbm, 186, rfl⟩
abbrev main_v121 : Ref sig .tc := ⟨.hbm, 187, rfl⟩
abbrev main_cst_39 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_cst_40 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_41 : Ref sig .tc := ⟨.hbm, 203, rfl⟩
abbrev main_v135 : Ref sig .tc := ⟨.hbm, 204, rfl⟩
abbrev main_v136 : Ref sig .tc := ⟨.hbm, 205, rfl⟩
abbrev main_cst_42 : Ref sig .tc := ⟨.hbm, 206, rfl⟩
abbrev main_cst_43 : Ref sig .tc := ⟨.hbm, 207, rfl⟩
abbrev main_call12_v0 : Ref sig .tc := ⟨.hbm, 208, rfl⟩
abbrev main_call12_v1 : Ref sig .tc := ⟨.hbm, 209, rfl⟩
abbrev main_call12_v2 : Ref sig .tc := ⟨.hbm, 210, rfl⟩
abbrev main_call12_v3 : Ref sig .tc := ⟨.hbm, 211, rfl⟩
abbrev main_call12_v4 : Ref sig .tc := ⟨.hbm, 212, rfl⟩
abbrev main_v137 : Ref sig .tc := ⟨.hbm, 213, rfl⟩
abbrev main_v138 : Ref sig .tc := ⟨.hbm, 214, rfl⟩
abbrev main_cst_44 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_45 : Ref sig .tc := ⟨.hbm, 219, rfl⟩
abbrev main_v142 : Ref sig .tc := ⟨.hbm, 220, rfl⟩
abbrev main_cst_46 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_cst_47 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_48 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_cst_49 : Ref sig .tc := ⟨.hbm, 235, rfl⟩
abbrev main_v154 : Ref sig .tc := ⟨.hbm, 236, rfl⟩
abbrev main_v155 : Ref sig .tc := ⟨.hbm, 237, rfl⟩
abbrev main_cst_50 : Ref sig .tc := ⟨.hbm, 238, rfl⟩
abbrev main_v156 : Ref sig .tc := ⟨.hbm, 239, rfl⟩
abbrev main_v157 : Ref sig .tc := ⟨.hbm, 240, rfl⟩

abbrev nD : Nat := 1
abbrev τ : Topo := Topo.v7x

variable {F : FTy → Type} [FloatOps F]
-- ==== Proof.Preserves.lean ====
module

public import proofs.«01_k».proof.Defs

/-!
# The named constants

Each named constant has the value it is declared with, whose nearest single is the word the kernel
is printed with.
-/

@[expose] public section

namespace Cert.Proof

open Idealize.ShloMosaic

theorem preserves : Cert.preserves_Kernel_KernelIdeal := by
  unfold Cert.preserves_Kernel_KernelIdeal
  repeat refine And.intro (IdealRules.named_const.statement _ _ _ _ _ (by rfl)) ?_
  exact IdealRules.named_const.statement _ _ _ _ _ (by rfl)

end Cert.Proof
-- ==== Proof.Body.lean ====
module

public import proofs.«01_k».proof.KernelIdeal

/-!
# The kernel's body, written with its loops

The printed body is one straight line of loads and stores.  Here it is written once more as a short
program with named stages: packing, the separable window sum, the table of flipped values, and the
two nested passes over the window.  `body_eq` says that the two programs are equal.
-/

@[expose] public section

namespace Cert.Proof

open Idealize.ShloMosaic Idealize.SL.Sem Cert.KernelIdeal

variable {F : FTy → Type} [FloatOps F] [Named F] [Cert.KernelIdeal.Facts]

/-- Programs over the kernel's buffers. -/
abbrev PK (F : FTy → Type) [Cert.KernelIdeal.Facts] := Prog (TpuEff nD τ sig (Elt F) Λ₀ .tc)

/-! ## Loads, stores and loops -/

/-- Load the block of sizes `sz'` at offset `off`. -/
noncomputable def ld {n : Nat} {sz : Fin n → Nat} (m : Memref sig .tc .vmem ⟨n, sz⟩ .f32) (off sz' : Fin n → Nat)
    (inb : ∀ a, off a + sz' a ≤ sz a) (hp : 0 < Shape.numel ⟨n, sz'⟩) : PK F (Vec F ⟨n, sz'⟩ .f32) :=
  Prog.lift (.load m (Rect.unit (s := ⟨n, sz⟩) off sz' inb).toLoadRect (View.loadsAt_vmem hp))

/-- Store `v` as the block of sizes `sz'` at offset `off`; the block is loaded first and dropped. -/
noncomputable def st {n : Nat} {sz : Fin n → Nat} (m : Memref sig .tc .vmem ⟨n, sz⟩ .f32) (off sz' : Fin n → Nat)
    (inb : ∀ a, off a + sz' a ≤ sz a) (hp : 0 < Shape.numel ⟨n, sz'⟩) (v : Vec F ⟨n, sz'⟩ .f32) : PK F PUnit := do
  let _ ← ld (F := F) m off sz' inb hp
  Prog.lift (.store m (Rect.unit (s := ⟨n, sz⟩) off sz' inb) v Finset.univ (View.stores_vmem_bits_univ hp rfl) (.inl rfl))

/-- Run `f` on the elements of a list, in order. -/
noncomputable def forL {α : Type} (f : α → PK F PUnit) : List α → PK F PUnit
  | [] => pure ⟨⟩
  | a :: l => do f a; forL f l

/-- Run `f` on the elements of a list, in order, handing a value on. -/
noncomputable def foldL {α : Type} {β : Type} (f : β → α → PK F β) : List α → β → PK F β
  | [], b => pure b
  | a :: l, b => do let b' ← f b a; foldL f l b'

theorem inb2 {A B a b c d : Nat} (h : a + c ≤ A) (h' : b + d ≤ B) :
    ∀ x, (![a, b] : Fin 2 → Nat) x + (![c, d] : Fin 2 → Nat) x ≤ (![A, B] : Fin 2 → Nat) x := fun
  | 0 => h
  | 1 => h'

theorem inb3 {A B C a b c d e f : Nat} (h : a + d ≤ A) (h' : b + e ≤ B) (h'' : c + f ≤ C) :
    ∀ x, (![a, b, c] : Fin 3 → Nat) x + (![d, e, f] : Fin 3 → Nat) x ≤ (![A, B, C] : Fin 3 → Nat) x := fun
  | 0 => h
  | 1 => h'
  | 2 => h''

/-! ## Pure pieces -/

/-- The constant block. -/
noncomputable abbrev bc (s : Shape) (b : BitVec 32) : FVec F s .f32 := broadcast s (Scalar.ofBits .f32 b)

/-- Rotate the lanes of `x` to the right by `n`. -/
def rot (r n : Nat) (h : 0 < n ∧ n < 128) (x : FVec F ⟨2, ![r, 128]⟩ .f32) : FVec F ⟨2, ![r, 128]⟩ .f32 :=
  concatenate ⟨2, ![r, 128]⟩ 1
    [⟨⟨2, ![r, n]⟩, extractStridedSlice ⟨2, ![r, n]⟩ ![0, 128 - n] x
        ⟨rfl, inb2 (a := 0) (c := r) (by omega) (by omega)⟩⟩,
     ⟨⟨2, ![r, 128 - n]⟩, extractStridedSlice ⟨2, ![r, 128 - n]⟩ ![0, 0] x
        ⟨rfl, inb2 (a := 0) (c := r) (by omega) (by omega)⟩⟩]
    ⟨by simp, by
      intro s hs
      simp only [List.map_cons, List.map_nil, List.mem_cons, List.not_mem_nil, or_false] at hs
      rcases hs with rfl | rfl <;> exact ⟨rfl, fun | 0, _ => rfl | 1, h => absurd rfl h⟩, by
      have : n + (128 - n) = 128 := by omega
      simpa using this⟩

/-- The tap weight at a distance from the centre. -/
noncomputable def tap : Nat → F .f32
  | 0 => Scalar.ofBits .f32 0x3E4D6105#32
  | 1 => Scalar.ofBits .f32 0x3E353F0F#32
  | 2 => Scalar.ofBits .f32 0x3DF92326#32
  | 3 => Scalar.ofBits .f32 0x3D855A85#32
  | 4 => Named.named κ "g4" 0x3CDE5C35#32
  | _ => Scalar.ofBits .f32 0x3C10612B#32

/-- The constants of a class of window positions: the weight, its double, and both negated. -/
structure Row (F : FTy → Type) where
  k : F .f32
  d : F .f32
  m : F .f32
  n : F .f32

/-- The constants of the 21 classes. -/
noncomputable def row : Nat → Row F
  | 0 => ⟨Named.named κ "k00" 0x3D24C487#32, Named.named κ "d00" 0x3DA4C487#32, Named.named κ "m00" 0xBD24C487#32, Named.named κ "n00" 0xBDA4C487#32⟩
  | 1 => ⟨Named.named κ "k01" 0x3D11682F#32, Named.named κ "d01" 0x3D91682F#32, Named.named κ "m01" 0xBD11682F#32, Named.named κ "n01" 0xBD91682F#32⟩
  | 2 => ⟨Named.named κ "k02" 0x3CC7DF91#32, Named.named κ "d02" 0x3D47DF91#32, Named.named κ "m02" 0xBCC7DF91#32, Named.named κ "n02" 0xBD47DF91#32⟩
  | 3 => ⟨Named.named κ "k03" 0x3C55F80D#32, Named.named κ "d03" 0x3CD5F80D#32, Named.named κ "m03" 0xBC55F80D#32, Named.named κ "n03" 0xBCD5F80D#32⟩
  | 4 => ⟨Named.named κ "k04" 0x3BB2641C#32, Named.named κ "d04" 0x3C32641C#32, Named.named κ "m04" 0xBBB2641C#32, Named.named κ "n04" 0xBC32641C#32⟩
  | 5 => ⟨Named.named κ "k05" 0x3AE7A90E#32, Named.named κ "d05" 0x3B67A90E#32, Named.named κ "m05" 0xBAE7A90E#32, Named.named κ "n05" 0xBB67A90E#32⟩
  | 6 => ⟨Named.named κ "k11" 0x3D00523B#32, Named.named κ "d11" 0x3D80523B#32, Named.named κ "m11" 0xBD00523B#32, Named.named κ "n11" 0xBD80523B#32⟩
  | 7 => ⟨Named.named κ "k12" 0x3CB06338#32, Named.named κ "d12" 0x3D306338#32, Named.named κ "m12" 0xBCB06338#32, Named.named κ "n12" 0xBD306338#32⟩
  | 8 => ⟨Named.named κ "k13" 0x3C3CD3B2#32, Named.named κ "d13" 0x3CBCD3B2#32, Named.named κ "m13" 0xBC3CD3B2#32, Named.named κ "n13" 0xBCBCD3B2#32⟩
  | 9 => ⟨Named.named κ "k14" 0x3B9D6DF7#32, Named.named κ "d14" 0x3C1D6DF7#32, Named.named κ "m14" 0xBB9D6DF7#32, Named.named κ "n14" 0xBC1D6DF7#32⟩
  | 10 => ⟨Named.named κ "k15" 0x3ACC7088#32, Named.named κ "d15" 0x3B4C7088#32, Named.named κ "m15" 0xBACC7088#32, Named.named κ "n15" 0xBB4C7088#32⟩
  | 11 => ⟨Named.named κ "k22" 0x3C727565#32, Named.named κ "d22" 0x3CF27565#32, Named.named κ "m22" 0xBC727565#32, Named.named κ "n22" 0xBCF27565#32⟩
  | 12 => ⟨Named.named κ "k23" 0x3C01C75B#32, Named.named κ "d23" 0x3C81C75B#32, Named.named κ "m23" 0xBC01C75B#32, Named.named κ "n23" 0xBC81C75B#32⟩
  | 13 => ⟨Named.named κ "k24" 0x3B586637#32, Named.named κ "d24" 0x3BD86637#32, Named.named κ "m24" 0xBB586637#32, Named.named κ "n24" 0xBBD86637#32⟩
  | 14 => ⟨Named.named κ "k25" 0x3A8C8256#32, Named.named κ "d25" 0x3B0C8256#32, Named.named κ "m25" 0xBA8C8256#32, Named.named κ "n25" 0xBB0C8256#32⟩
  | 15 => ⟨Named.named κ "k33" 0x3B8AEE5C#32, Named.named κ "d33" 0x3C0AEE5C#32, Named.named κ "m33" 0xBB8AEE5C#32, Named.named κ "n33" 0xBC0AEE5C#32⟩
  | 16 => ⟨Scalar.ofBits .f32 0x3AE7A90F#32, Scalar.ofBits .f32 0x3B67A90F#32, Scalar.ofBits .f32 0xBAE7A90F#32, Scalar.ofBits .f32 0xBB67A90F#32⟩
  | 17 => ⟨Named.named κ "k35" 0x3A166B11#32, Named.named κ "d35" 0x3A966B11#32, Named.named κ "m35" 0xBA166B11#32, Named.named κ "n35" 0xBA966B11#32⟩
  | 18 => ⟨Named.named κ "k44" 0x3A41240D#32, Named.named κ "d44" 0x3AC1240D#32, Named.named κ "m44" 0xBA41240D#32, Named.named κ "n44" 0xBAC1240D#32⟩
  | 19 => ⟨Named.named κ "k45" 0x397AD088#32, Named.named κ "d45" 0x39FAD088#32, Named.named κ "m45" 0xB97AD088#32, Named.named κ "n45" 0xB9FAD088#32⟩
  | _ => ⟨Named.named κ "k55" 0x38A2DAEB#32, Named.named κ "d55" 0x3922DAEB#32, Named.named κ "m55" 0xB8A2DAEB#32, Named.named κ "n55" 0xB922DAEB#32⟩

/-- The squared tap weight at a distance from the centre. -/
noncomputable def tapSq : Nat → F .f32
  | 0 => Named.named κ "k00" 0x3D24C487#32
  | 1 => Named.named κ "k11" 0x3D00523B#32
  | 2 => Named.named κ "k22" 0x3C727565#32
  | 3 => Named.named κ "k33" 0x3B8AEE5C#32
  | 4 => Named.named κ "k44" 0x3A41240D#32
  | _ => Named.named κ "k55" 0x38A2DAEB#32

/-- The weight one at every distance. -/
noncomputable def tapOne : Nat → F .f32 := fun _ => Scalar.ofBits .f32 0x3F800000#32

/-- The distance of a window position from the centre. -/
def dst (i : Nat) : Nat := (i - 5) + (5 - i)

/-- The class of a pair of distances. -/
def cls (a b : Nat) : Nat := min a b * (11 - min a b) / 2 + max a b

/-- How far the lanes are rotated at window column `i`. -/
def amt (i : Nat) : Nat := if i ≤ 5 then 5 - i else 133 - i

/-- The lanes of `x` moved so that window column `i` comes to the centre. -/
noncomputable def shift (r : Nat) (i : Nat) (x : FVec F ⟨2, ![r, 128]⟩ .f32) : FVec F ⟨2, ![r, 128]⟩ .f32 :=
  if h : i ≠ 5 ∧ i < 11 then rot r (amt i) (by unfold amt; split <;> omega) x else x

/-- One lane step of the window sum. -/
noncomputable def hstep (g : Nat → F .f32) (x acc : FVec F S32x128 .f32) (i : Nat) : FVec F S32x128 .f32 :=
  addf acc (mulf (broadcast S32x128 (g (dst i))) (shift 32 i x))

/-- The window sum along the lanes. -/
noncomputable def hconv (g : Nat → F .f32) (x : FVec F S32x128 .f32) : FVec F S32x128 .f32 :=
  [0, 1, 2, 3, 4, 6, 7, 8, 9, 10].foldl (hstep g x) (mulf (broadcast S32x128 (g 0)) x)

/-- `x` times its reciprocal square root. -/
noncomputable def psq {s : Shape} (x : FVec F s .f32) : FVec F s .f32 := mulf x (rsqrt x)

/-- What the table is made from. -/
structure Env (F : FTy → Type) where
  muB : FVec F S32x128 .f32
  muC : FVec F S32x128 .f32
  hHC : FVec F S32x128 .f32
  sigC : FVec F S32x128 .f32
  cc : FVec F S32x128 .f32
  mc : FVec F S32x128 .f32
  sc : FVec F S32x128 .f32

/-- The contrast-weighted similarity of a flipped pixel without its last numerator. -/
noncomputable def tabQ (e : Env F) (k : F .f32) : FVec F S32x128 .f32 :=
  let mu := addf e.muB (broadcast S32x128 k)
  let mu2 := mulf mu mu
  let sh := subf mu mu2
  let mumc := mulf mu e.muC
  let n1 := addf (addf mumc mumc) (bc S32x128 0x38D1B717#32)
  let d1 := addf mu2 e.mc
  let s := psq (addf (maximumf (mulf sh e.sigC) (bc S32x128 0x00000000#32)) (bc S32x128 0x2B8CBCCC#32))
  let d2 := addf sh e.sc
  let n2 := addf (addf s s) (bc S32x128 0x3A6BEDFA#32)
  let d3 := addf (addf s (bc S32x128 0x3A6BEDFA#32)) (bc S32x128 0x2B8CBCCC#32)
  mulf e.cc (divf (mulf n1 n2) (mulf (mulf d1 d2) d3))

/-- The last numerator. -/
noncomputable def tabN (e : Env F) (k : F .f32) : FVec F S32x128 .f32 :=
  let h := subf e.hHC (mulf (addf e.muB (broadcast S32x128 k)) e.muC)
  addf (addf h h) (bc S32x128 0x3A6BEDFA#32)

/-! ## The stages -/

/-- The two images of an argument. -/
noncomputable def images (a : Memref sig .tc .vmem S2x32x32 .f32) : PK F (FVec F S32x32 .f32 × FVec F S32x32 .f32) := do
  let x ← ld (F := F) a ![0, 0, 0] S1x32x32.size (by decide) (by decide)
  let y ← ld (F := F) a ![1, 0, 0] S1x32x32.size (by decide) (by decide)
  pure (shapeCast S32x32 x (by decide), shapeCast S32x32 y (by decide))

/-- Two images side by side in the lanes, zero around them. -/
noncomputable def pack (m : Memref sig .tc .vmem S32x128 .f32) (x y : FVec F S32x32 .f32) : PK F (FVec F S32x128 .f32) := do
  st m ![0, 0] S32x128.size (by decide) (by decide) (shapeCast S32x128 (bc S32x128 0x00000000#32) (by decide))
  st m ![0, 8] S32x32.size (by decide) (by decide) (shapeCast S32x32 x (by decide))
  st m ![0, 72] S32x32.size (by decide) (by decide) (shapeCast S32x32 y (by decide))
  ld (F := F) m ![0, 0] S32x128.size (by decide) (by decide)

/-- One row step of the window sum. -/
noncomputable def vstep (m : Memref sig .tc .vmem S48x128 .f32) (g : Nat → F .f32) (acc : FVec F S32x128 .f32) (i : Fin 11) :
    PK F (FVec F S32x128 .f32) := do
  let v ← ld (F := F) m ![3 + i.val, 0] S32x128.size (inb2 (by omega) (by decide)) (by decide)
  pure (addf acc (mulf (broadcast S32x128 (g (dst i.val))) v))

/-- The separable window sum of `x` with weights `g`. -/
noncomputable def conv (m : Memref sig .tc .vmem S48x128 .f32) (g : Nat → F .f32) (x : FVec F S32x128 .f32) :
    PK F (FVec F S32x128 .f32) := do
  st m ![0, 0] S48x128.size (by decide) (by decide) (shapeCast S48x128 (bc S48x128 0x00000000#32) (by decide))
  st m ![8, 0] S32x128.size (by decide) (by decide) (shapeCast S32x128 x (by decide))
  let v ← ld (F := F) m ![3, 0] S32x128.size (by decide) (by decide)
  let t ← foldL (vstep m g) [1, 2, 3, 4, 5, 6, 7, 8, 9, 10] (mulf (broadcast S32x128 (g 5)) v)
  pure (hconv g t)

/-- The two table entries of one class and one sign: `j` is the first slot. -/
noncomputable def tabSide (m : Memref sig .tc .vmem S84x48x128 .f32) (e : Env F) (k d : F .f32) (j : Nat) (hj : j + 2 ≤ 84) :
    PK F PUnit := do
  st m ![j, 8, 0] S1x32x128.size (inb3 (by omega) (by decide) (by decide)) (by decide)
    (shapeCast S1x32x128 (mulf (tabQ e k) (tabN e k)) (by decide))
  st m ![j + 1, 8, 0] S1x32x128.size (inb3 (by omega) (by decide) (by decide)) (by decide)
    (shapeCast S1x32x128 (mulf (broadcast S32x128 d) (tabQ e k)) (by decide))

/-- The four table entries of a class. -/
noncomputable def tabStep (m : Memref sig .tc .vmem S84x48x128 .f32) (e : Env F) (c : Fin 21) : PK F PUnit := do
  tabSide m e (row c.val).k (row c.val).d (4 * c.val) (by omega)
  tabSide m e (row c.val).m (row c.val).n (4 * c.val + 2) (by omega)

/-- Copy slot `k` of the class of the distances of `dx` and `qy`, its lanes shifted. -/
noncomputable def copyStep (m : Memref sig .tc .vmem S84x48x128 .f32) (m' : Memref sig .tc .vmem S24x48x128 .f32)
    (dx : Fin 11) (s : Fin 24) : PK F PUnit := do
  let v ← ld (F := F) m ![4 * (cls (dst dx.val) (s.val / 4) % 21) + s.val % 4, 0, 0] S1x48x128.size
    (inb3 (by omega) (by decide) (by decide)) (by decide)
  st m' ![s.val, 0, 0] S1x48x128.size (inb3 (by omega) (by decide) (by decide)) (by decide)
    (shapeCast S1x48x128 (shift 48 dx.val (shapeCast S48x128 v (by decide))) (by decide))

/-- Add what the window row `dy` contributes. -/
noncomputable def accStep (m' : Memref sig .tc .vmem S24x48x128 .f32) (pos : IVec S32x128 1) (c acc : FVec F S32x128 .f32)
    (dy : Fin 11) : PK F (FVec F S32x128 .f32) := do
  have hd : dst dy.val ≤ 5 := by unfold dst; omega
  let a ← ld (F := F) m' ![4 * dst dy.val, 3 + dy.val, 0] S1x32x128.size (inb3 (by omega) (by omega) (by decide)) (by decide)
  let b ← ld (F := F) m' ![4 * dst dy.val + 1, 3 + dy.val, 0] S1x32x128.size (inb3 (by omega) (by omega) (by decide)) (by decide)
  let a' ← ld (F := F) m' ![4 * dst dy.val + 2, 3 + dy.val, 0] S1x32x128.size (inb3 (by omega) (by omega) (by decide)) (by decide)
  let b' ← ld (F := F) m' ![4 * dst dy.val + 3, 3 + dy.val, 0] S1x32x128.size (inb3 (by omega) (by omega) (by decide)) (by decide)
  pure (addf acc (addf
    (select pos (shapeCast S32x128 a (by decide)) (shapeCast S32x128 a' (by decide)))
    (mulf (select pos (shapeCast S32x128 b (by decide)) (shapeCast S32x128 b' (by decide))) c)))

/-- Window column `dx`: copy the table's slots, then go over the window's rows. -/
noncomputable def colStep (m : Memref sig .tc .vmem S84x48x128 .f32) (m' : Memref sig .tc .vmem S24x48x128 .f32)
    (pos : IVec S32x128 1) (c acc : FVec F S32x128 .f32) (dx : Fin 11) : PK F (FVec F S32x128 .f32) := do
  forL (copyStep (F := F) m m' dx) [0, 1, 2, 3, 4, 5, 6, 7, 8, 9, 10, 11, 12, 13, 14, 15, 16, 17, 18, 19, 20, 21, 22, 23]
  foldL (accStep m' pos c) [0, 1, 2, 3, 4, 5, 6, 7, 8, 9, 10] acc

/-! ## Pure values between the stages -/

/-- The halftone: one where the threshold lies below the probability. -/
noncomputable def hOf (u p : FVec F S32x128 .f32) : FVec F S32x128 .f32 :=
  select (cmpf .olt u p) (bc S32x128 0x3F800000#32) (bc S32x128 0x00000000#32)

/-- The contrast weight from the local variance. -/
noncomputable def ccOf (im cv : FVec F S32x128 .f32) : FVec F S32x128 .f32 :=
  mulf im (minimumf (bc S32x128 0x3F800000#32) (maximumf (bc S32x128 0x00000000#32)
    (mulf (bc S32x128 0x40000000#32) (psq (addf cv (bc S32x128 0x2B8CBCCC#32))))))

/-- The structural similarity of the unflipped picture. -/
noncomputable def ssimOf (muB muC hHC sigC : FVec F S32x128 .f32) : FVec F S32x128 .f32 :=
  let sh := subf muB (mulf muB muB)
  let shc := subf hHC (mulf muB muC)
  let l := divf (addf (mulf (mulf (bc S32x128 0x40000000#32) muB) muC) (bc S32x128 0x38D1B717#32))
    (addf (addf (mulf muB muB) (mulf muC muC)) (bc S32x128 0x38D1B717#32))
  let s := psq (addf (maximumf (mulf sh sigC) (bc S32x128 0x00000000#32)) (bc S32x128 0x2B8CBCCC#32))
  let c := divf (addf (mulf (bc S32x128 0x40000000#32) s) (bc S32x128 0x3A6BEDFA#32))
    (addf (addf sh sigC) (bc S32x128 0x3A6BEDFA#32))
  let t := divf (addf (mulf (bc S32x128 0x40000000#32) shc) (bc S32x128 0x3A6BEDFA#32))
    (addf (addf s (bc S32x128 0x3A6BEDFA#32)) (bc S32x128 0x2B8CBCCC#32))
  mulf (mulf l c) t

/-- The reward of the unflipped picture at each pixel. -/
noncomputable def baseOf (im cc ssim d : FVec F S32x128 .f32) : FVec F S32x128 .f32 :=
  mulf im (subf (mulf (bc S32x128 0x3D75C28F#32) (addf (mulf cc ssim) (subf (bc S32x128 0x3F800000#32) cc))) (mulf d d))

/-- The direction of a flip. -/
noncomputable def deltaOf (h : FVec F S32x128 .f32) : FVec F S32x128 .f32 :=
  subf (bc S32x128 0x3F800000#32) (mulf (bc S32x128 0x40000000#32) h)

/-- The result from the last accumulator. -/
noncomputable def finalOf (base w mse acc box : FVec F S32x128 .f32) : FVec F S1x1 .f32 :=
  let r := mulf (subf (mulf (bc S32x128 0x3D75C28F#32) (subf acc box)) mse) (bc S32x128 0x3A800000#32)
  let t := addf base (mulf w r)
  mulf (shapeCast S1x1 (multiReduction .add [1] S1 (shapeCast S1x128
      (multiReduction .add [0] S128 t 0x00000000#32 (by decide) (.inl rfl) rfl) (by decide))
      0x00000000#32 (by decide) (.inl rfl) rfl) (by decide))
    (bc S1x1 0xBA000000#32)

/-! ## The whole body -/

/-- The kernel's body with its loops. -/
noncomputable def body (arg0 arg1 : Memref sig .tc .vmem S2x32x32 .f32) (arg2 : Memref sig .tc .vmem S32x128 .f32)
    (arg3 : Memref sig .tc .vmem S1x1 .f32) (arg4 : Memref sig .tc .vmem S32x128 .f32) (arg5 : Memref sig .tc .vmem S48x128 .f32)
    (arg6 : Memref sig .tc .vmem S84x48x128 .f32) (arg7 : Memref sig .tc .vmem S24x48x128 .f32) : PK F PUnit := do
  let ps ← images (F := F) arg0
  let p ← pack arg4 ps.1 ps.2
  let cs ← images (F := F) arg1
  let c ← pack arg4 cs.1 cs.2
  let im ← pack arg4 (bc (F := F) S32x32 0x3F800000#32) (bc S32x32 0x3F800000#32)
  let u ← ld (F := F) arg2 ![0, 0] S32x128.size (by decide) (by decide)
  let muB ← conv arg5 tap (hOf u p)
  let muC ← conv arg5 tap c
  let hCC ← conv arg5 tap (mulf c c)
  let hHC ← conv arg5 tap (mulf (hOf u p) c)
  let cv ← conv arg5 tap (mulf im (mulf (subf c muC) (subf c muC)))
  let db ← conv arg5 tap (mulf im (subf muB muC))
  let k2 ← conv arg5 tapSq im
  let bx ← conv arg5 tapOne (mulf (ccOf im cv) (ssimOf muB muC hHC (subf hCC (mulf muC muC))))
  st arg6 ![0, 0, 0] S84x48x128.size (by decide) (by decide)
    (shapeCast S84x48x128 (bc S84x48x128 0x00000000#32) (by decide))
  forL (tabStep arg6 ⟨muB, muC, hHC, subf hCC (mulf muC muC), ccOf im cv,
      addf (mulf muC muC) (bc S32x128 0x38D1B717#32), addf (subf hCC (mulf muC muC)) (bc S32x128 0x3A6BEDFA#32)⟩)
    [0, 1, 2, 3, 4, 5, 6, 7, 8, 9, 10, 11, 12, 13, 14, 15, 16, 17, 18, 19, 20]
  let acc ← foldL (colStep arg6 arg7 (cmpf .ogt (deltaOf (hOf u p)) (bc S32x128 0x00000000#32)) c)
    [0, 1, 2, 3, 4, 5, 6, 7, 8, 9, 10] (bc S32x128 0x00000000#32)
  st arg3 ![0, 0] S1x1.size (by decide) (by decide)
    (finalOf (baseOf im (ccOf im cv) (ssimOf muB muC hHC (subf hCC (mulf muC muC))) (subf muB muC))
      (addf (hOf u p) (mulf (deltaOf (hOf u p)) p))
      (addf (mulf (deltaOf (hOf u p)) (mulf (bc S32x128 0x40000000#32) db)) k2)
      acc bx)

end Cert.Proof
-- ==== Proof.Values.lean ====
module

public import proofs.«01_k».proof.Proof.Body
public import proofs.«01_k».proof.Proof.Gen.KernelIdeal
public import Idealize.ShloMosaic.Lib.VecWindow

/-!
# The values the stages hand on

For each stage of the body the value it computes, as a function of the values it is given.
-/

@[expose] public section

noncomputable section

namespace Cert.Proof

open Idealize.ShloMosaic Cert.KernelIdeal Cert.KernelIdeal.Gen VecWindow

variable {F : FTy → Type} [FloatOps F] [Named F]

/-- A put over everything leaves the payload. -/
theorem put_full {α : Type} {s : Shape} (x : s.Idx → α) (off : Fin s.rank → ℕ) (h : ∀ a, off a + s.size a ≤ s.size a) (w : s.Idx → α) :
    put x off s.size w = w := by
  funext y
  have hy : ∀ a, off a ≤ (y a).val ∧ (y a).val < off a + s.size a := fun a => by
    have := h a; have := (y a).isLt; omega
  unfold put
  rw [dif_pos hy]
  exact congrArg w (funext fun a => Fin.ext (by
    show (y a).val - off a = (y a).val
    have := h a; omega))

/-- A window of everything is everything. -/
theorem window_full {α : Type} {s : Shape} (x : s.Idx → α) (off : Fin s.rank → ℕ) (h : ∀ a, off a + s.size a ≤ s.size a) :
    window x off s.size h = x := by
  funext y
  show x _ = x y
  exact congrArg x (funext fun a => Fin.ext (by
    show off a + 1 * (y a).val = (y a).val
    have := h a; omega))

/-- The images of an argument. -/
def imagesV (X : Vec F S2x32x32 .f32) : FVec F S32x32 .f32 × FVec F S32x32 .f32 :=
  (shapeCast S32x32 (window (s := S2x32x32) X ![0, 0, 0] S1x32x32.size (by decide)) (by decide),
    shapeCast S32x32 (window (s := S2x32x32) X ![1, 0, 0] S1x32x32.size (by decide)) (by decide))

/-- Two images packed. -/
def packV (x y : FVec F S32x32 .f32) : FVec F S32x128 .f32 :=
  window (s := S32x128) (put (s := S32x128) (put (s := S32x128) (shapeCast S32x128 (bc S32x128 0x00000000#32) (by decide))
    ![0, 8] S32x32.size (shapeCast S32x32 x (by decide))) ![0, 72] S32x32.size (shapeCast S32x32 y (by decide)))
    ![0, 0] S32x128.size (by decide)

/-- The padded picture the row steps read. -/
def padV (x : FVec F S32x128 .f32) : FVec F S48x128 .f32 :=
  put (s := S48x128) (shapeCast S48x128 (bc S48x128 0x00000000#32) (by decide)) ![8, 0] S32x128.size (shapeCast S32x128 x (by decide))

/-- The rows the row step `i` reads. -/
def rowsV (x : FVec F S32x128 .f32) (i : Fin 11) : FVec F S32x128 .f32 :=
  window (s := S48x128) (padV x) ![3 + i.val, 0] S32x128.size (inb2 (by omega) (by decide))

/-- The window sum along the rows. -/
def vconvV (g : Nat → F .f32) (x : FVec F S32x128 .f32) : FVec F S32x128 .f32 :=
  ([1, 2, 3, 4, 5, 6, 7, 8, 9, 10] : List (Fin 11)).foldl
    (fun acc i => addf acc (mulf (broadcast S32x128 (g (dst i.val))) (rowsV x i)))
    (mulf (broadcast S32x128 (g 5)) (rowsV x 0))

/-- The separable window sum. -/
def convV (g : Nat → F .f32) (x : FVec F S32x128 .f32) : FVec F S32x128 .f32 := hconv g (vconvV g x)

/-- The table after one side of one class. -/
def sideV (e : Env F) (k d : F .f32) (j : Nat) (T : FVec F S84x48x128 .f32) : FVec F S84x48x128 .f32 :=
  put (s := S84x48x128) (put (s := S84x48x128) T ![j, 8, 0] S1x32x128.size (shapeCast S1x32x128 (mulf (tabQ e k) (tabN e k)) (by decide)))
    ![j + 1, 8, 0] S1x32x128.size (shapeCast S1x32x128 (mulf (broadcast S32x128 d) (tabQ e k)) (by decide))

/-- The table after one class. -/
def tabStepV (e : Env F) (T : FVec F S84x48x128 .f32) (c : Fin 21) : FVec F S84x48x128 .f32 :=
  sideV e (row c.val).m (row c.val).n (4 * c.val + 2) (sideV e (row c.val).k (row c.val).d (4 * c.val) T)

/-- The table. -/
def tabV (e : Env F) : FVec F S84x48x128 .f32 :=
  ([0, 1, 2, 3, 4, 5, 6, 7, 8, 9, 10, 11, 12, 13, 14, 15, 16, 17, 18, 19, 20] : List (Fin 21)).foldl (tabStepV e)
    (shapeCast S84x48x128 (bc S84x48x128 0x00000000#32) (by decide))

/-- The slot copied, its lanes shifted. -/
def slotV (T : FVec F S84x48x128 .f32) (dx : Fin 11) (s : Fin 24) : FVec F S1x48x128 .f32 :=
  shapeCast S1x48x128 (shift 48 dx.val (shapeCast (s := S1x48x128) S48x128
    (window (s := S84x48x128) T ![4 * (cls (dst dx.val) (s.val / 4) % 21) + s.val % 4, 0, 0] S1x48x128.size
      (inb3 (by omega) (by decide) (by decide))) (by decide))) (by decide)

/-- The copies after one more. -/
def copyV (T : FVec F S84x48x128 .f32) (dx : Fin 11) (Y : FVec F S24x48x128 .f32) (s : Fin 24) : FVec F S24x48x128 .f32 :=
  put (s := S24x48x128) Y ![s.val, 0, 0] S1x48x128.size (slotV T dx s)

/-- All the copies. -/
def copiesV (T : FVec F S84x48x128 .f32) (dx : Fin 11) : FVec F S24x48x128 .f32 := fun i => slotV T dx (i 0) fun a => ⟨if a = 0 then 0 else (i a).val, by
  match a with
  | 0 => exact Nat.one_pos
  | 1 => exact (i 1).isLt
  | 2 => exact (i 2).isLt⟩

theorem dst_le (i : Fin 11) : dst i.val ≤ 5 := by unfold dst; omega

/-- The rows of the copies read at the window row `dy`. -/
def readV (Y : FVec F S24x48x128 .f32) (dy : Fin 11) (k : Fin 4) : FVec F S32x128 .f32 :=
  shapeCast (s := S1x32x128) S32x128 (window (s := S24x48x128) Y ![4 * dst dy.val + k.val, 3 + dy.val, 0] S1x32x128.size
    (inb3 (by have := dst_le dy; omega) (by omega) (by decide))) (by decide)

/-- One row step of the accumulation. -/
def accV (Y : FVec F S24x48x128 .f32) (pos : IVec S32x128 1) (c acc : FVec F S32x128 .f32) (dy : Fin 11) : FVec F S32x128 .f32 :=
  addf acc (addf (select pos (readV Y dy 0) (readV Y dy 2)) (mulf (select pos (readV Y dy 1) (readV Y dy 3)) c))

/-- One column step of the accumulation. -/
def colV (T : FVec F S84x48x128 .f32) (pos : IVec S32x128 1) (c acc : FVec F S32x128 .f32) (dx : Fin 11) : FVec F S32x128 .f32 :=
  ([0, 1, 2, 3, 4, 5, 6, 7, 8, 9, 10] : List (Fin 11)).foldl (accV (copiesV T dx) pos c) acc

/-- The accumulation over the window. -/
def sumV (T : FVec F S84x48x128 .f32) (pos : IVec S32x128 1) (c : FVec F S32x128 .f32) : FVec F S32x128 .f32 :=
  ([0, 1, 2, 3, 4, 5, 6, 7, 8, 9, 10] : List (Fin 11)).foldl (colV T pos c) (bc S32x128 0x00000000#32)

/-- The mask of the pixels. -/
def maskV : FVec F S32x128 .f32 := packV (bc S32x32 0x3F800000#32) (bc S32x32 0x3F800000#32)

/-- What the table is made from, for a halftone and a picture. -/
def envV (h c : FVec F S32x128 .f32) : Env F :=
  let muB := convV tap h
  let muC := convV tap c
  let sigC := subf (convV tap (mulf c c)) (mulf muC muC)
  ⟨muB, muC, convV tap (mulf h c), sigC,
    ccOf maskV (convV tap (mulf maskV (mulf (subf c muC) (subf c muC)))),
    addf (mulf muC muC) (bc S32x128 0x38D1B717#32), addf sigC (bc S32x128 0x3A6BEDFA#32)⟩

/-- The result for a halftone, a picture and a probability, packed. -/
def outV (h c p : FVec F S32x128 .f32) : FVec F S1x1 .f32 :=
  let e := envV h c
  let ssim := ssimOf e.muB e.muC e.hHC e.sigC
  finalOf (baseOf maskV e.cc ssim (subf e.muB e.muC)) (addf h (mulf (deltaOf h) p))
    (addf (mulf (deltaOf h) (mulf (bc S32x128 0x40000000#32) (convV tap (mulf maskV (subf e.muB e.muC))))) (convV tapSq maskV))
    (sumV (tabV e) (cmpf .ogt (deltaOf h) (bc S32x128 0x00000000#32)) c)
    (convV tapOne (mulf e.cc ssim))

/-- The picture packed. -/
def packedV (X : Vec F S2x32x32 .f32) : FVec F S32x128 .f32 := packV (imagesV X).1 (imagesV X).2

/-- The kernel's result from its three blocks. -/
def kernelV (x0 x1 : Vec F S2x32x32 .f32) (x2 : Vec F S32x128 .f32) : FVec F S1x1 .f32 :=
  outV (hOf x2 (packedV x0)) (packedV x1) (packedV x0)

/-! ## The copies -/

theorem copyV_apply (T : FVec F S84x48x128 .f32) (dx : Fin 11) (Y : FVec F S24x48x128 .f32) (s : Fin 24) (i : S24x48x128.Idx) :
    copyV T dx Y s i = if (i 0).val = s.val then copiesV T dx i else Y i := by
  unfold copyV put
  by_cases h : (i 0).val = s.val
  · obtain rfl : s = i 0 := Fin.ext h.symm
    have hy : ∀ a, (![(i 0).val, 0, 0] : Fin 3 → ℕ) a ≤ (i a).val ∧ (i a).val < (![(i 0).val, 0, 0] : Fin 3 → ℕ) a + S1x48x128.size a := fun
      | 0 => ⟨le_rfl, Nat.lt_succ_self _⟩
      | 1 => ⟨Nat.zero_le _, by have h : (i 1).val < 48 := (i 1).isLt; show (i 1).val < 0 + 48; omega⟩
      | 2 => ⟨Nat.zero_le _, by have h : (i 2).val < 128 := (i 2).isLt; show (i 2).val < 0 + 128; omega⟩
    rw [if_pos rfl, dif_pos hy]
    unfold copiesV
    refine congrArg (slotV T dx (i 0)) (funext fun a => ?_)
    match a with
    | 0 => exact Fin.ext (Nat.sub_self _)
    | 1 => rfl
    | 2 => rfl
  · rw [if_neg h, dif_neg]
    intro hy
    have h1 : s.val ≤ (i 0).val := (hy 0).1
    have h2 : (i 0).val < s.val + 1 := (hy 0).2
    omega

theorem copies_foldl (T : FVec F S84x48x128 .f32) (dx : Fin 11) (l : List (Fin 24)) :
    ∀ (Y : FVec F S24x48x128 .f32) (i : S24x48x128.Idx), ((∃ s ∈ l, (i 0).val = s.val) ∨ Y i = copiesV T dx i) →
      l.foldl (copyV T dx) Y i = copiesV T dx i := by
  induction l with
  | nil =>
    rintro Y i (⟨s, hs, _⟩ | h)
    · exact absurd hs (List.not_mem_nil)
    · exact h
  | cons a l ih =>
    intro Y i h
    rw [List.foldl_cons]
    apply ih
    rw [copyV_apply]
    by_cases h0 : (i 0).val = a.val
    · exact .inr (if_pos h0)
    · rw [if_neg h0]
      rcases h with ⟨s, hs, h⟩ | h
      · rcases List.mem_cons.1 hs with rfl | hs
        · exact absurd h h0
        · exact .inl ⟨s, hs, h⟩
      · exact .inr h

theorem copies_all (T : FVec F S84x48x128 .f32) (dx : Fin 11) (Y : FVec F S24x48x128 .f32) :
    ([0, 1, 2, 3, 4, 5, 6, 7, 8, 9, 10, 11, 12, 13, 14, 15, 16, 17, 18, 19, 20, 21, 22, 23] : List (Fin 24)).foldl (copyV T dx) Y
      = copiesV T dx := by
  funext i
  have h : ∀ k : Fin 24, k ∈ ([0, 1, 2, 3, 4, 5, 6, 7, 8, 9, 10, 11, 12, 13, 14, 15, 16, 17, 18, 19, 20, 21, 22, 23] : List (Fin 24)) := by decide
  exact copies_foldl _ _ _ _ _ (.inl ⟨i 0, h _, rfl⟩)

end Cert.Proof
-- ==== Proof.Reward.lean ====
module

public import Mathlib.Analysis.Real.Sqrt
public import Mathlib.Algebra.Order.BigOperators.Ring.Finset
public import Mathlib.Tactic.Linarith
public import Mathlib.Tactic.FieldSimp
public import Mathlib.Tactic.LinearCombination
public import Mathlib.Tactic.NormNum

/-!
# The reward over the reals, and what one flip changes in it

The low-pass is a symmetric non-negative kernel `K` on a finite set of pixels. `rew` is the reward of
a halftone `h` against a picture `c`; `flip_rew` says what flipping one pixel adds to it, in the
terms that can be had from the unflipped picture.
-/

@[expose] public section

noncomputable section

namespace Cert.Reward

open Finset

/-- The four constants of the reward: two stabilisers, the small number under the roots, the weight. -/
structure Par where
  c1 : ℝ
  c2 : ℝ
  eps : ℝ
  ws : ℝ

/-- The root in the contrast and structure terms. -/
def sq (k : Par) (sh sc : ℝ) : ℝ := Real.sqrt (max (sh * sc) 0 + k.eps)

/-- The structural similarity from the local moments. -/
def ssim (k : Par) (mh mc sh sc shc : ℝ) : ℝ :=
  ((2 * mh * mc + k.c1) / (mh * mh + mc * mc + k.c1) * ((2 * sq k sh sc + k.c2) / (sh + sc + k.c2)))
    * ((2 * shc + k.c2) / (sq k sh sc + k.c2 + k.eps))

variable {P : Type} [Fintype P] [DecidableEq P]

/-- The low-pass. -/
def low (K : P → P → ℝ) (f : P → ℝ) (p : P) : ℝ := ∑ q, f q * K p q

/-- The local variance. -/
def var (K : P → P → ℝ) (f : P → ℝ) (p : P) : ℝ := low K (fun q => f q * f q) p - low K f p * low K f p

/-- The local covariance. -/
def cov (K : P → P → ℝ) (f g : P → ℝ) (p : P) : ℝ := low K (fun q => f q * g q) p - low K f p * low K g p

/-- The contrast weight of a picture. -/
def weight (k : Par) (K : P → P → ℝ) (c : P → ℝ) (p : P) : ℝ :=
  min 1 (max 0 (2 * Real.sqrt (low K (fun q => (c q - low K c q) * (c q - low K c q)) p + k.eps)))

/-- The similarity at a pixel. -/
def sim (k : Par) (K : P → P → ℝ) (c h : P → ℝ) (p : P) : ℝ :=
  ssim k (low K h p) (low K c p) (var K h p) (var K c p) (cov K h c p)

/-- The reward of a halftone. -/
def rew (k : Par) (K : P → P → ℝ) (n : ℝ) (c h : P → ℝ) : ℝ :=
  -((∑ p, (low K h p - low K c p) * (low K h p - low K c p)) / n)
    + k.ws * ((∑ p, (weight k K c p * sim k K c h p + (1 - weight k K c p))) / n)

/-- The direction of a flip. -/
def dir (h : P → ℝ) (q : P) : ℝ := 1 - 2 * h q

/-- The halftone with pixel `q` flipped. -/
def flip (h : P → ℝ) (q : P) : P → ℝ := fun p => if p = q then 1 - h p else h p

/-- The similarity at `p` after a flip at `q`, from the unflipped moments. -/
def simFlip (k : Par) (K : P → P → ℝ) (c h : P → ℝ) (q p : P) : ℝ :=
  let mu := low K h p + dir h q * K p q
  ssim k mu (low K c p) (mu - mu * mu) (var K c p)
    (low K (fun s => h s * c s) p + dir h q * K p q * c q - mu * low K c p)

/-- What a flip at `q` adds to the reward. -/
def gain (k : Par) (K : P → P → ℝ) (near : P → P → Prop) [∀ p q, Decidable (near p q)] (n : ℝ) (c h : P → ℝ) (q : P) : ℝ :=
  (k.ws * ((∑ p, if near q p then weight k K c p * simFlip k K c h q p else 0)
      - ∑ p, if near q p then weight k K c p * sim k K c h p else 0)
    - (dir h q * (2 * low K (fun p => low K h p - low K c p) q) + ∑ p, K q p * K q p)) / n

/-- The reward at a pixel. -/
def base (k : Par) (K : P → P → ℝ) (c h : P → ℝ) (p : P) : ℝ :=
  k.ws * (weight k K c p * sim k K c h p + (1 - weight k K c p)) - (low K h p - low K c p) * (low K h p - low K c p)

variable (k : Par) (K : P → P → ℝ) (near : P → P → Prop) [∀ p q, Decidable (near p q)] (n : ℝ) (c h : P → ℝ)

theorem flip_eq (q : P) : flip h q = fun p => h p + if p = q then dir h q else 0 := by
  funext p
  unfold flip dir
  split
  · next e => subst e; ring
  · ring

theorem flip_bit (hb : ∀ p, h p = 0 ∨ h p = 1) (q p : P) : flip h q p = 0 ∨ flip h q p = 1 := by
  unfold flip
  split
  · rcases hb p with e | e <;> simp [e]
  · exact hb p

theorem low_flip (q p : P) : low K (flip h q) p = low K h p + dir h q * K p q := by
  rw [flip_eq]
  unfold low
  simp only [add_mul, ite_mul, zero_mul, sum_add_distrib, sum_ite_eq', mem_univ, if_true]

theorem low_flip_mul (q p : P) : low K (fun s => flip h q s * c s) p = low K (fun s => h s * c s) p + dir h q * K p q * c q := by
  rw [flip_eq]
  unfold low
  simp only [add_mul, ite_mul, zero_mul, sum_add_distrib, sum_ite_eq', mem_univ, if_true]
  ring

theorem var_bit (hb : ∀ p, h p = 0 ∨ h p = 1) (p : P) : var K h p = low K h p - low K h p * low K h p := by
  unfold var
  congr 2
  funext q
  rcases hb q with e | e <;> simp [e]

theorem sim_flip (hb : ∀ p, h p = 0 ∨ h p = 1) (q p : P) : sim k K c (flip h q) p = simFlip k K c h q p := by
  unfold sim simFlip
  rw [var_bit K _ (flip_bit h hb q), low_flip]
  unfold cov
  rw [low_flip, low_flip_mul]

theorem simFlip_far (hb : ∀ p, h p = 0 ∨ h p = 1) (q p : P) (hk : K p q = 0) : simFlip k K c h q p = sim k K c h p := by
  unfold sim simFlip
  rw [var_bit K h hb]
  unfold cov
  simp [hk]

/-- Flipping the pixel `q` adds the gain at `q` to the reward. -/
theorem flip_rew (hs : ∀ p q, K p q = K q p) (hn : ∀ p q, ¬ near q p → K p q = 0) (hb : ∀ p, h p = 0 ∨ h p = 1) (q : P) :
    rew k K n c (flip h q) = rew k K n c h + gain k K near n c h q := by
  have hd : dir h q * dir h q = 1 := by
    unfold dir
    rcases hb q with e | e <;> rw [e] <;> norm_num
  have h1 : ∑ p, (low K (flip h q) p - low K c p) * (low K (flip h q) p - low K c p)
      = (∑ p, (low K h p - low K c p) * (low K h p - low K c p))
        + (dir h q * (2 * low K (fun p => low K h p - low K c p) q) + ∑ p, K q p * K q p) := by
    have e : ∀ p, (low K (flip h q) p - low K c p) * (low K (flip h q) p - low K c p)
        = (low K h p - low K c p) * (low K h p - low K c p)
          + (dir h q * (2 * ((low K h p - low K c p) * K q p)) + K q p * K q p) := fun p => by
      rw [low_flip, hs p q]
      linear_combination (K q p * K q p) * hd
    simp only [e, sum_add_distrib, ← mul_sum]
    rfl
  have h2 : ∑ p, (weight k K c p * sim k K c (flip h q) p + (1 - weight k K c p))
      = (∑ p, (weight k K c p * sim k K c h p + (1 - weight k K c p)))
        + ((∑ p, if near q p then weight k K c p * simFlip k K c h q p else 0)
          - ∑ p, if near q p then weight k K c p * sim k K c h p else 0) := by
    rw [← sum_sub_distrib, ← sum_add_distrib]
    refine sum_congr rfl fun p _ => ?_
    rw [sim_flip k K c h hb]
    by_cases e : near q p
    · rw [if_pos e, if_pos e]; ring
    · rw [if_neg e, if_neg e, simFlip_far k K c h hb q p (hn p q e)]; ring
  unfold rew gain
  rw [h1, h2]
  ring

theorem rew_base (hn : n ≠ 0) : n * rew k K n c h = ∑ p, base k K c h p := by
  unfold rew base
  rw [sum_sub_distrib, ← mul_sum]
  field_simp
  ring

/-- The candidate with pixel `q` at `a`. -/
def cand (h : P → ℝ) (a : ℝ) (q : P) : P → ℝ := fun p => if p = q then a else h p

/-- The expected reward of setting a pixel by its probability, summed over the pixels. -/
theorem expected (hs : ∀ p q, K p q = K q p) (hn : ∀ p q, ¬ near q p → K p q = 0) (hb : ∀ p, h p = 0 ∨ h p = 1)
    (h0 : n = Fintype.card P) (hn0 : n ≠ 0) (pr : P → ℝ) :
    ∑ q, ((1 - pr q) * rew k K n c (cand h 0 q) + pr q * rew k K n c (cand h 1 q))
      = ∑ q, (base k K c h q + (h q + dir h q * pr q) * gain k K near n c h q) := by
  have e : ∀ q, (1 - pr q) * rew k K n c (cand h 0 q) + pr q * rew k K n c (cand h 1 q)
      = rew k K n c h + (h q + dir h q * pr q) * gain k K near n c h q := fun q => by
    rcases hb q with e | e
    · have a : cand h 0 q = h := funext fun p => by unfold cand; split <;> simp_all
      have b : cand h 1 q = flip h q := funext fun p => by unfold cand flip; split <;> simp_all
      rw [a, b, flip_rew k K near n c h hs hn hb]
      unfold dir
      rw [e]; ring
    · have a : cand h 1 q = h := funext fun p => by unfold cand; split <;> simp_all
      have b : cand h 0 q = flip h q := funext fun p => by unfold cand flip; split <;> simp_all
      rw [a, b, flip_rew k K near n c h hs hn hb]
      unfold dir
      rw [e]; ring
  simp only [e, sum_add_distrib, sum_const, card_univ, nsmul_eq_mul]
  rw [← h0, rew_base k K n c h hn0]

/-! ## The denominators -/

/-- The variance cannot fall far below zero. -/
theorem var_ge (hk : ∀ p q, 0 ≤ K p q) (s m : ℝ) (hs1 : 1 ≤ s) (hsum : ∀ p, ∑ q, K p q ≤ s) (hc : ∀ q, c q * c q ≤ m) (hm : 0 ≤ m) (p : P) :
    -((s - 1) * (m * s)) ≤ var K c p := by
  have h1 : (∑ q, c q * K p q) ^ 2 ≤ (∑ q, K p q) * ∑ q, c q * c q * K p q :=
    sum_sq_le_sum_mul_sum_of_sq_eq_mul _ (fun q _ => hk p q) (fun q _ => mul_nonneg (mul_self_nonneg _) (hk p q)) (fun q _ => by ring)
  have h2 : ∑ q, c q * c q * K p q ≤ m * s := by
    calc ∑ q, c q * c q * K p q ≤ ∑ q, m * K p q := sum_le_sum fun q _ => mul_le_mul_of_nonneg_right (hc q) (hk p q)
      _ = m * ∑ q, K p q := (mul_sum _ _ _).symm
      _ ≤ m * s := mul_le_mul_of_nonneg_left (hsum p) hm
  have h3 : 0 ≤ ∑ q, c q * c q * K p q := sum_nonneg fun q _ => mul_nonneg (mul_self_nonneg _) (hk p q)
  have h4 := hsum p
  unfold var low
  nlinarith [mul_le_mul_of_nonneg_right h4 h3, mul_le_mul_of_nonneg_left h2 (sub_nonneg.2 hs1)]

theorem low_sq_nonneg (hk : ∀ p q, 0 ≤ K p q) (f : P → ℝ) (p : P) : 0 ≤ low K (fun q => f q * f q) p :=
  sum_nonneg fun q _ => mul_nonneg (mul_self_nonneg _) (hk p q)

end Cert.Reward
-- ==== Proof.Words.lean ====
module

public import proofs.«01_k».proof.Proof.Values
public import proofs.«01_k».proof.Proof.Reward
public import Idealize.ShloMosaic.PureOps.IdealRules
public import Idealize.ShloMosaic.Lib.Pointwise
public import Mathlib.Tactic.IntervalCases

/-!
# The numbers the constants denote
-/

@[expose] public section

noncomputable section

namespace Cert.Proof

open Idealize.ShloMosaic Cert.KernelIdeal

/-- The number of a normal pattern, from its sign, exponent and fraction. -/
theorem ofBits_normal (b : BitVec 32) (neg : Bool) (e f : ℕ) (hs : (b.extractLsb' 31 1 == 1#1) = neg)
    (he : (b.extractLsb' 23 8).toNat = e) (hf : (b.extractLsb' 0 23).toNat = f) (h0 : e ≠ 255) (h1 : e ≠ 0) :
    Ideal.ofBits .f32 b = (((if neg then -1 else 1) * (8388608 + f : ℝ) * (2 : ℝ) ^ ((e : ℤ) - 150) : ℝ) : EReal) := by
  have h2 : (e : ℤ) - (2 ^ (8 - 1) - 1) - (23 : ℕ) = (e : ℤ) - 150 := by norm_num; ring
  show Ideal.ieee 8 23 b = _
  unfold Ideal.ieee
  simp only [Nat.reduceAdd, hs, he, hf, Nat.reducePow, Nat.reduceSub]
  rw [if_neg h0, if_neg h1]
  congr 2
  · push_cast; ring
  · congr 1

/-- The taps, as numbers. -/
def tapR : ℕ → ℝ
  | 0 => 13459717 / 67108864
  | 1 => 11878159 / 67108864
  | 2 => 8163731 / 67108864
  | 3 => 8739461 / 134217728
  | 4 => 15182095 / 559325504
  | _ => 9462059 / 1073741824

theorem tapR_far (n : ℕ) : tapR (n + 5) = 9462059 / 1073741824 := rfl

/-- The reward's constants, as numbers. -/
def par : Reward.Par := ⟨13743895 / 137438953472, 7730941 / 8589934592, 2305843 / 2305843009213693952, 16106127 / 268435456⟩

theorem word_zero : Ideal.ofBits .f32 0x00000000#32 = ((0 : ℝ) : EReal) := Ideal.ofBits_zero_f32
theorem word_one : Ideal.ofBits .f32 0x3F800000#32 = ((1 : ℝ) : EReal) :=
  (ofBits_normal _ false 127 0 rfl rfl rfl (by decide) (by decide)).trans (by norm_num)
theorem word_two : Ideal.ofBits .f32 0x40000000#32 = ((2 : ℝ) : EReal) :=
  (ofBits_normal _ false 128 0 rfl rfl rfl (by decide) (by decide)).trans (by norm_num)
theorem word_1024 : Ideal.ofBits .f32 0x44800000#32 = ((1024 : ℝ) : EReal) :=
  (ofBits_normal _ false 137 0 rfl rfl rfl (by decide) (by decide)).trans (by norm_num)
theorem word_2048 : Ideal.ofBits .f32 0x45000000#32 = ((2048 : ℝ) : EReal) :=
  (ofBits_normal _ false 138 0 rfl rfl rfl (by decide) (by decide)).trans (by norm_num)
theorem word_128 : Ideal.ofBits .f32 0x43000000#32 = ((128 : ℝ) : EReal) :=
  (ofBits_normal _ false 134 0 rfl rfl rfl (by decide) (by decide)).trans (by norm_num)
theorem word_neg_128 : Ideal.ofBits .f32 0xC3000000#32 = ((-128 : ℝ) : EReal) :=
  (ofBits_normal _ true 134 0 rfl rfl rfl (by decide) (by decide)).trans (by norm_num)
theorem word_inv_1024 : Ideal.ofBits .f32 0x3A800000#32 = ((1 / 1024 : ℝ) : EReal) :=
  (ofBits_normal _ false 117 0 rfl rfl rfl (by decide) (by decide)).trans (by norm_num)
theorem word_inv_2048 : Ideal.ofBits .f32 0xBA000000#32 = ((-(1 / 2048) : ℝ) : EReal) :=
  (ofBits_normal _ true 116 0 rfl rfl rfl (by decide) (by decide)).trans (by norm_num)
theorem word_c1 : Ideal.ofBits .f32 0x38D1B717#32 = ((par.c1 : ℝ) : EReal) :=
  (ofBits_normal _ false 113 5355287 rfl rfl rfl (by decide) (by decide)).trans (by norm_num [par])
theorem word_c2 : Ideal.ofBits .f32 0x3A6BEDFA#32 = ((par.c2 : ℝ) : EReal) :=
  (ofBits_normal _ false 116 7073274 rfl rfl rfl (by decide) (by decide)).trans (by norm_num [par])
theorem word_eps : Ideal.ofBits .f32 0x2B8CBCCC#32 = ((par.eps : ℝ) : EReal) :=
  (ofBits_normal _ false 87 834764 rfl rfl rfl (by decide) (by decide)).trans (by norm_num [par])
theorem word_ws : Ideal.ofBits .f32 0x3D75C28F#32 = ((par.ws : ℝ) : EReal) :=
  (ofBits_normal _ false 122 7717519 rfl rfl rfl (by decide) (by decide)).trans (by norm_num [par])
theorem word_tap0 : Ideal.ofBits .f32 0x3E4D6105#32 = ((tapR 0 : ℝ) : EReal) :=
  (ofBits_normal _ false 124 5071109 rfl rfl rfl (by decide) (by decide)).trans (by norm_num [tapR])
theorem word_tap1 : Ideal.ofBits .f32 0x3E353F0F#32 = ((tapR 1 : ℝ) : EReal) :=
  (ofBits_normal _ false 124 3489551 rfl rfl rfl (by decide) (by decide)).trans (by norm_num [tapR])
theorem word_tap2 : Ideal.ofBits .f32 0x3DF92326#32 = ((tapR 2 : ℝ) : EReal) :=
  (ofBits_normal _ false 123 7938854 rfl rfl rfl (by decide) (by decide)).trans (by norm_num [tapR])
theorem word_tap3 : Ideal.ofBits .f32 0x3D855A85#32 = ((tapR 3 : ℝ) : EReal) :=
  (ofBits_normal _ false 123 350853 rfl rfl rfl (by decide) (by decide)).trans (by norm_num [tapR])
theorem word_tap5 : Ideal.ofBits .f32 0x3C10612B#32 = ((tapR 5 : ℝ) : EReal) :=
  (ofBits_normal _ false 120 1073451 rfl rfl rfl (by decide) (by decide)).trans (by norm_num [tapR])
theorem word_prod : Ideal.ofBits .f32 0x3AE7A90F#32 = ((tapR 3 * tapR 4 : ℝ) : EReal) :=
  (ofBits_normal _ false 117 6793487 rfl rfl rfl (by decide) (by decide)).trans (by norm_num [tapR])
theorem word_prod2 : Ideal.ofBits .f32 0x3B67A90F#32 = ((2 * (tapR 3 * tapR 4) : ℝ) : EReal) :=
  (ofBits_normal _ false 118 6793487 rfl rfl rfl (by decide) (by decide)).trans (by norm_num [tapR])
theorem word_neg_prod : Ideal.ofBits .f32 0xBAE7A90F#32 = ((-(tapR 3 * tapR 4) : ℝ) : EReal) :=
  (ofBits_normal _ true 117 6793487 rfl rfl rfl (by decide) (by decide)).trans (by norm_num [tapR])
theorem word_neg_prod2 : Ideal.ofBits .f32 0xBB67A90F#32 = ((-(2 * (tapR 3 * tapR 4)) : ℝ) : EReal) :=
  (ofBits_normal _ true 118 6793487 rfl rfl rfl (by decide) (by decide)).trans (by norm_num [tapR])
theorem word_top : Ideal.ofBits .f32 0x7F800000#32 = ⊤ := by
  simp [Ideal.ofBits, Ideal.ieee]
theorem word_bot : Ideal.ofBits .f32 0xFF800000#32 = ⊥ := by
  simp [Ideal.ofBits, Ideal.ieee]

/-- The taps' numbers. -/
theorem tap_eq (q : ℕ) : tap (F := Ideal) q = ((tapR q : ℝ) : EReal) := by
  match q with
  | 0 => exact word_tap0
  | 1 => exact word_tap1
  | 2 => exact word_tap2
  | 3 => exact word_tap3
  | 4 => exact (IdealRules.named_const.ideal_named_scalar _ _ _ _ rfl).trans (by norm_num [tapR])
  | _ + 5 => exact word_tap5

theorem tapOne_eq (q : ℕ) : tapOne (F := Ideal) q = ((1 : ℝ) : EReal) := word_one

theorem tapSq_eq (q : ℕ) : tapSq (F := Ideal) q = ((tapR q * tapR q : ℝ) : EReal) := by
  match q with
  | 0 | 1 | 2 | 3 | 4 => exact (IdealRules.named_const.ideal_named_scalar _ _ _ _ rfl).trans (by norm_num [tapR])
  | _ + 5 =>
    rw [tapR_far]
    exact (IdealRules.named_const.ideal_named_scalar _ _ _ _ rfl).trans (by norm_num)

/-- The constants of a class are the product of its two taps, twice it, and both negated. -/
structure IsRow (r : Row Ideal) (t : ℝ) : Prop where
  k : r.k = (t : EReal)
  d : r.d = ((2 * t : ℝ) : EReal)
  m : r.m = ((-t : ℝ) : EReal)
  n : r.n = ((-(2 * t) : ℝ) : EReal)

theorem row_eq (a b : ℕ) (ha : a ≤ 5) (hb : b ≤ 5) : IsRow (row (cls a b % 21)) (tapR a * tapR b) := by
  interval_cases a <;> interval_cases b <;>
    first
    | exact ⟨word_prod, word_prod2, word_neg_prod, word_neg_prod2⟩
    | exact ⟨word_prod.trans (by rw [mul_comm]), word_prod2.trans (by rw [mul_comm (tapR 3)]), word_neg_prod.trans (by rw [mul_comm (tapR 3)]), word_neg_prod2.trans (by rw [mul_comm (tapR 3)])⟩
    | exact ⟨(IdealRules.named_const.ideal_named_scalar _ _ _ _ rfl).trans (by norm_num [tapR]),
        (IdealRules.named_const.ideal_named_scalar _ _ _ _ rfl).trans (by norm_num [tapR]),
        (IdealRules.named_const.ideal_named_scalar _ _ _ _ rfl).trans (by norm_num [tapR]),
        (IdealRules.named_const.ideal_named_scalar _ _ _ _ rfl).trans (by norm_num [tapR])⟩

theorem tapR_nonneg (q : ℕ) : 0 ≤ tapR q := by
  match q with
  | 0 | 1 | 2 | 3 | 4 => norm_num [tapR]
  | _ + 5 => rw [tapR_far]; norm_num

end Cert.Proof
-- ==== Proof.AtIndex.lean ====
module

public import proofs.«01_k».proof.Proof.Words

/-!
# Elementwise operations on real entries

Each lemma says: if the operands have these real numbers at an index, the result has that one.
-/

@[expose] public section

noncomputable section

namespace Cert.Proof

open Idealize.ShloMosaic

variable {s : Shape} {X Y : FVec Ideal s .f32} {i : s.Idx} {x y : ℝ}

theorem addf_at (hx : X i = (x : EReal)) (hy : Y i = (y : EReal)) : addf X Y i = ((x + y : ℝ) : EReal) := by
  show X i + Y i = _
  rw [hx, hy, EReal.coe_add]

theorem subf_at (hx : X i = (x : EReal)) (hy : Y i = (y : EReal)) : subf X Y i = ((x - y : ℝ) : EReal) := by
  show X i - Y i = _
  rw [hx, hy, EReal.coe_sub]

theorem mulf_at (hx : X i = (x : EReal)) (hy : Y i = (y : EReal)) : mulf X Y i = ((x * y : ℝ) : EReal) := by
  show X i * Y i = _
  rw [hx, hy, EReal.coe_mul]

theorem div_real (hy : y ≠ 0) : Ideal.div (x : EReal) (y : EReal) = ((x / y : ℝ) : EReal) := by
  unfold Ideal.div
  rw [if_neg (by exact_mod_cast hy), ← EReal.coe_inv, ← EReal.coe_mul, div_eq_mul_inv]

theorem divf_at (hx : X i = (x : EReal)) (hy : Y i = (y : EReal)) (h : y ≠ 0) : divf X Y i = ((x / y : ℝ) : EReal) := by
  show Ideal.div (X i) (Y i) = _
  rw [hx, hy, div_real h]

theorem hdivf_at (hx : X i = (x : EReal)) (hy : Y i = (y : EReal)) (h : y ≠ 0) : Host.divf X Y i = ((x / y : ℝ) : EReal) := by
  show Ideal.div (X i) (Y i) = _
  rw [hx, hy, div_real h]

theorem hnegf_at (hx : X i = (x : EReal)) : Host.negf X i = ((-x : ℝ) : EReal) := by
  show -(X i) = _
  rw [hx, EReal.coe_neg]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem maximumf_at (hx : X i = (x : EReal)) (hy : Y i = (y : EReal)) : maximumf X Y i = ((max x y : ℝ) : EReal) := by
  show max (X i) (Y i) = _
  rw [hx, hy, coe_max]

theorem minimumf_at (hx : X i = (x : EReal)) (hy : Y i = (y : EReal)) : minimumf X Y i = ((min x y : ℝ) : EReal) := by
  show min (X i) (Y i) = _
  rw [hx, hy, coe_min]

theorem hsqrt_at (hx : X i = (x : EReal)) (h : 0 ≤ x) : Host.sqrt X i = ((Real.sqrt x : ℝ) : EReal) := by
  show Ideal.sqrt (X i) = _
  rw [hx, Ideal.sqrt_coe, if_neg (not_lt.2 h)]

theorem psq_at (hx : X i = (x : EReal)) (h : 0 < x) : psq X i = ((Real.sqrt x : ℝ) : EReal) := by
  show X i * Ideal.rsqrt (X i) = _
  rw [hx, Ideal.rsqrt_coe, if_neg (not_lt.2 h.le), if_neg h.ne', ← EReal.coe_mul]
  congr 1
  rw [← div_eq_mul_inv, Real.div_sqrt]

theorem bc_at {b : BitVec 32} (h : Ideal.ofBits .f32 b = (x : EReal)) : bc (F := Ideal) s b i = (x : EReal) := h

theorem broadcast_at {a : Ideal .f32} (h : a = (x : EReal)) : broadcast s a i = (x : EReal) := h

theorem mulf_zero_left (hx : X i = 0) : mulf X Y i = 0 := by
  show X i * Y i = 0
  rw [hx, zero_mul]

theorem mulf_zero_right (hy : Y i = 0) : mulf X Y i = 0 := by
  show X i * Y i = 0
  rw [hy, mul_zero]

theorem coe_sum {ι : Type} (t : Finset ι) (f : ι → ℝ) : ∑ a ∈ t, (f a : EReal) = ((∑ a ∈ t, f a : ℝ) : EReal) := by
  classical
  induction t using Finset.induction_on with
  | empty => simp
  | insert a t h ih => rw [Finset.sum_insert h, Finset.sum_insert h, ih, EReal.coe_add]

end Cert.Proof
-- ==== Proof.Places.lean ====
module

public import proofs.«01_k».proof.Proof.AtIndex
public import Mathlib.Tactic.Abel

/-!
# Where the packed values lie

Two images of 32 by 32 lie side by side in the lanes of one block. What the kernel moves around in
that block is read here entry by entry.
-/

@[expose] public section

noncomputable section

namespace Cert.Proof

open Idealize.ShloMosaic Cert.KernelIdeal VecWindow

section Windows

variable {α : Type} {s : Shape}

theorem window_at (x : s.Idx → α) (off size : Fin s.rank → ℕ) (inb : ∀ a, off a + size a ≤ s.size a)
    (y : (Rect.unit off size inb).shape.Idx) (z : s.Idx) (h : ∀ a, (z a).val = off a + (y a).val) : window x off size inb y = x z := by
  refine congrArg x (funext fun a => Fin.ext ?_)
  show off a + 1 * (y a).val = (z a).val
  rw [h, one_mul]

theorem put_in (x : s.Idx → α) (off size : Fin s.rank → ℕ) (w : ((a : Fin s.rank) → Fin (size a)) → α) (y : s.Idx)
    (z : (a : Fin s.rank) → Fin (size a)) (h : ∀ a, (y a).val = off a + (z a).val) : put x off size w y = w z := by
  unfold put
  rw [dif_pos fun a => ⟨by have := h a; omega, by have := h a; have := (z a).isLt; omega⟩]
  refine congrArg w (funext fun a => Fin.ext ?_)
  show (y a).val - off a = (z a).val
  have := h a; omega

theorem put_out (x : s.Idx → α) (off size : Fin s.rank → ℕ) (w : ((a : Fin s.rank) → Fin (size a)) → α) (y : s.Idx)
    (a : Fin s.rank) (h : (y a).val < off a ∨ off a + size a ≤ (y a).val) : put x off size w y = x y := by
  unfold put
  rw [dif_neg fun hh => by have := hh a; omega]

end Windows

/-- The lane of the column `w` of image `b`. -/
def lane (b : Fin 2) (w : Fin 32) : Fin 128 := ⟨8 + 64 * b.val + w.val, by omega⟩

/-- A lane of some image. -/
def inside (l : Fin 128) : Prop := (8 ≤ l.val ∧ l.val < 40) ∨ (72 ≤ l.val ∧ l.val < 104)

instance (l : Fin 128) : Decidable (inside l) := by unfold inside; infer_instance

theorem inside_lane (b : Fin 2) (w : Fin 32) : inside (lane b w) := by
  unfold inside lane
  have := b.isLt
  have := w.isLt
  show (8 ≤ 8 + 64 * b.val + w.val ∧ 8 + 64 * b.val + w.val < 40) ∨ (72 ≤ 8 + 64 * b.val + w.val ∧ 8 + 64 * b.val + w.val < 104)
  omega

theorem exists_lane (l : Fin 128) (h : inside l) : ∃ b w, l = lane b w := by
  unfold inside at h
  rcases h with h | h
  · exact ⟨0, ⟨l.val - 8, by omega⟩, Fin.ext (by show l.val = 8 + 64 * 0 + (l.val - 8); omega)⟩
  · exact ⟨1, ⟨l.val - 72, by omega⟩, Fin.ext (by show l.val = 8 + 64 * 1 + (l.val - 72); omega)⟩

variable {F : FTy → Type} [FloatOps F] [Named F]

theorem pack_lane (x y : FVec F S32x32 .f32) (r : Fin 32) (b : Fin 2) (w : Fin 32) :
    packV x y (ix2 r (lane b w)) = (if b = 0 then x else y) (ix2 r w) := by
  unfold packV
  rw [window_full]
  match b with
  | 0 =>
    refine (put_out (s := S32x128) _ ![0, 72] S32x32.size _ (ix2 r (lane 0 w)) (1 : Fin 2)
      (.inl (by show 8 + 64 * 0 + w.val < 72; omega))).trans ?_
    refine (put_in (s := S32x128) _ ![0, 8] S32x32.size _ (ix2 r (lane 0 w)) (ix2 r w)
      (fun | 0 => (Nat.zero_add _).symm | 1 => by show 8 + 64 * 0 + w.val = 8 + w.val; omega)).trans ?_
    pointwise
  | 1 =>
    refine (put_in (s := S32x128) _ ![0, 72] S32x32.size _ (ix2 r (lane 1 w)) (ix2 r w)
      (fun | 0 => (Nat.zero_add _).symm | 1 => by show 8 + 64 * 1 + w.val = 72 + w.val; omega)).trans ?_
    pointwise

theorem pack_outside (x y : FVec F S32x32 .f32) (r : Fin 32) (l : Fin 128) (h : ¬ inside l) :
    packV x y (ix2 r l) = FloatOps.ofBits .f32 0x00000000#32 := by
  unfold packV
  unfold inside at h
  rw [window_full, put_out _ _ _ _ _ (1 : Fin 2) (by show l.val < 72 ∨ 72 + 32 ≤ l.val; omega),
    put_out _ _ _ _ _ (1 : Fin 2) (by show l.val < 8 ∨ 8 + 32 ≤ l.val; omega)]
  pointwise

/-- The lane that window column `i` brings to `l`. -/
def from_ (l : Fin 128) (i : Fin 11) : Fin 128 := ⟨(l.val + 123 + i.val) % 128, by omega⟩

theorem rot_at (r n : ℕ) (h : 0 < n ∧ n < 128) (x : FVec F ⟨2, ![r, 128]⟩ .f32) (a : Fin r) (l : Fin 128) :
    rot r n h x (ix2 a l) = x (ix2 a ⟨(l.val + (128 - n)) % 128, by omega⟩) := by
  unfold rot
  by_cases hl : l.val < n
  · refine (concatenate_pair_apply_left (t := ⟨2, ![r, 128]⟩) (s₁ := ⟨2, ![r, n]⟩) (s₂ := ⟨2, ![r, 128 - n]⟩) (1 : Fin 2) _ _ _ _ rfl
      (ix2 a (⟨l.val, hl⟩ : Fin n)) (fun | 0 => rfl | 1 => rfl)).trans ?_
    refine congrArg x (funext fun | 0 => Fin.ext (Nat.zero_add _) | 1 => Fin.ext ?_)
    show 128 - n + l.val = (l.val + (128 - n)) % 128
    omega
  · refine (concatenate_pair_apply_right (t := ⟨2, ![r, 128]⟩) (s₁ := ⟨2, ![r, n]⟩) (s₂ := ⟨2, ![r, 128 - n]⟩) (1 : Fin 2) _ _ _ _ rfl rfl
      (ix2 a (⟨l.val - n, by have := l.isLt; omega⟩ : Fin (128 - n))) (fun | 0 => fun _ => rfl | 1 => fun h => absurd rfl h)
      (by show l.val - n + n = l.val; omega)).trans ?_
    refine congrArg x (funext fun | 0 => Fin.ext (Nat.zero_add _) | 1 => Fin.ext ?_)
    show 0 + (l.val - n) = (l.val + (128 - n)) % 128
    have := l.isLt
    omega

theorem shift_at (r : ℕ) (i : Fin 11) (x : FVec F ⟨2, ![r, 128]⟩ .f32) (a : Fin r) (l : Fin 128) :
    shift r i.val x (ix2 a l) = x (ix2 a (from_ l i)) := by
  unfold shift
  split
  · next h =>
    rw [rot_at]
    refine congrArg (fun z => x (ix2 a z)) (Fin.ext ?_)
    show (l.val + (128 - amt i.val)) % 128 = (l.val + 123 + i.val) % 128
    unfold amt
    split <;> omega
  · next h =>
    refine congrArg (fun z => x (ix2 a z)) (Fin.ext ?_)
    show l.val = (l.val + 123 + i.val) % 128
    have := i.isLt
    have := l.isLt
    omega

theorem rows_at (x : FVec F S32x128 .f32) (i : Fin 11) (r : Fin 32) (l : Fin 128) :
    rowsV x i (ix2 r l) = if h : 5 ≤ r.val + i.val ∧ r.val + i.val < 37 then x (ix2 ⟨r.val + i.val - 5, by omega⟩ l)
      else FloatOps.ofBits .f32 0x00000000#32 := by
  unfold rowsV padV
  refine (window_at (s := S48x128) _ ![3 + i.val, 0] S32x128.size _ (ix2 r l) (ix2 (⟨3 + i.val + r.val, by omega⟩ : Fin 48) l)
    (fun | 0 => rfl | 1 => (Nat.zero_add _).symm)).trans ?_
  split
  · next h =>
    refine (put_in (s := S48x128) _ ![8, 0] S32x128.size _ _ (ix2 (⟨r.val + i.val - 5, by omega⟩ : Fin 32) l)
      (fun | 0 => by show 3 + i.val + r.val = 8 + (r.val + i.val - 5); omega | 1 => (Nat.zero_add _).symm)).trans ?_
    pointwise
  · next h =>
    refine (put_out (s := S48x128) _ ![8, 0] S32x128.size _ _ (0 : Fin 2)
      (by show 3 + i.val + r.val < 8 ∨ 8 + 32 ≤ 3 + i.val + r.val; omega)).trans ?_
    pointwise

end Cert.Proof
-- ==== Proof.WindowSum.lean ====
module

public import proofs.«01_k».proof.Proof.Places

/-!
# The window sums are the low-pass

On real entries the separable window sum of a packed block is, image by image, the low-pass whose
kernel is the product of two bands.
-/

@[expose] public section

noncomputable section

namespace Cert.Proof

open Idealize.ShloMosaic Cert.KernelIdeal Finset

/-- A sum over window positions is a sum over the pixels of the window. -/
theorem window_sum {M : Type} [AddCommMonoid M] (r : Fin 32) (G : Fin 11 → Fin 32 → M) :
    ∑ d : Fin 11, (if h : 5 ≤ r.val + d.val ∧ r.val + d.val < 37 then G d ⟨r.val + d.val - 5, by omega⟩ else 0)
      = ∑ j : Fin 32, if h : r.val ≤ j.val + 5 ∧ j.val ≤ r.val + 5 then G ⟨j.val + 5 - r.val, by omega⟩ j else 0 := by
  have e1 : ∀ d : Fin 11, (if h : 5 ≤ r.val + d.val ∧ r.val + d.val < 37 then G d ⟨r.val + d.val - 5, by omega⟩ else 0)
      = ∑ j : Fin 32, if j.val + 5 = r.val + d.val then G d j else 0 := fun d => by
    split
    · next h =>
      rw [Finset.sum_eq_single (⟨r.val + d.val - 5, by omega⟩ : Fin 32)]
      · rw [if_pos (by show r.val + d.val - 5 + 5 = r.val + d.val; omega)]
      · intro j _ hj
        rw [if_neg fun e => hj (Fin.ext (by show j.val = r.val + d.val - 5; omega))]
      · intro h; exact absurd (mem_univ _) h
    · next h =>
      refine (Finset.sum_eq_zero fun j _ => ?_).symm
      have := j.isLt
      rw [if_neg (by omega)]
  have e2 : ∀ j : Fin 32, (if h : r.val ≤ j.val + 5 ∧ j.val ≤ r.val + 5 then G ⟨j.val + 5 - r.val, by omega⟩ j else 0)
      = ∑ d : Fin 11, if j.val + 5 = r.val + d.val then G d j else 0 := fun j => by
    split
    · next h =>
      rw [Finset.sum_eq_single (⟨j.val + 5 - r.val, by omega⟩ : Fin 11)]
      · rw [if_pos (by show j.val + 5 = r.val + (j.val + 5 - r.val); omega)]
      · intro d _ hd
        rw [if_neg fun e => hd (Fin.ext (by show d.val = j.val + 5 - r.val; omega))]
      · intro h; exact absurd (mem_univ _) h
    · next h =>
      refine (Finset.sum_eq_zero fun d _ => ?_).symm
      have := d.isLt
      rw [if_neg (by omega)]
  simp only [e1, e2]
  exact Finset.sum_comm

/-- A pixel. -/
abbrev Px : Type := Fin 32 × Fin 32

/-- The band of a tap sequence. -/
def band (g : ℕ → ℝ) (i j : Fin 32) : ℝ := if i.val ≤ j.val + 5 ∧ j.val ≤ i.val + 5 then g (dst (j.val + 5 - i.val)) else 0

/-- The kernel of a separable low-pass. -/
def kern (g : ℕ → ℝ) (p q : Px) : ℝ := band g p.1 q.1 * band g p.2 q.2

theorem low_kern (g : ℕ → ℝ) (f : Px → ℝ) (p : Px) :
    Reward.low (kern g) f p = ∑ k : Fin 32, (∑ j : Fin 32, f (j, k) * band g p.1 j) * band g p.2 k := by
  unfold Reward.low kern
  rw [Fintype.sum_prod_type, Finset.sum_comm]
  refine sum_congr rfl fun k _ => ?_
  rw [sum_mul]
  exact sum_congr rfl fun j _ => by ring

theorem foldl_add {α ι : Type} {M : Type} [AddCommMonoid M] (f : (α → M) → ι → α → M) (t : ι → α → M)
    (h : ∀ a i x, f a i x = a x + t i x) (l : List ι) : ∀ (a : α → M) (x : α), l.foldl f a x = a x + (l.map fun i => t i x).sum := by
  induction l with
  | nil => intro a x; simp
  | cons i l ih =>
    intro a x
    rw [List.foldl_cons, ih, h, List.map_cons, List.sum_cons, add_assoc]

theorem vconv_at (g : ℕ → Ideal .f32) (x : FVec Ideal S32x128 .f32) (i : S32x128.Idx) :
    vconvV g x i = ∑ d : Fin 11, g (dst d.val) * rowsV x d i := by
  unfold vconvV
  refine (foldl_add (M := EReal) _ (fun d i => g (dst d.val) * rowsV x d i) (fun a d i => by rfl) _ _ _).trans ?_
  rw [Fin.sum_univ_succ]
  refine congrArg₂ (· + ·) rfl ?_
  simp only [List.map_cons, List.map_nil, List.sum_cons, List.sum_nil, Fin.sum_univ_succ, Fin.sum_univ_zero]
  rfl

theorem hconv_at (g : ℕ → Ideal .f32) (x : FVec Ideal S32x128 .f32) (r : Fin 32) (l : Fin 128) :
    hconv g x (ix2 r l) = ∑ d : Fin 11, g (dst d.val) * x (ix2 r (from_ l d)) := by
  have e : ∀ d : Fin 11, x (ix2 r (from_ l d)) = shift 32 d.val x (ix2 r l) := fun d => (shift_at 32 d x r l).symm
  have e5 : x (ix2 r l) = shift 32 5 x (ix2 r l) := rfl
  unfold hconv
  refine (foldl_add (M := EReal) _ (fun d i => g (dst d) * shift 32 d x i) (fun a d i => by rfl) _ _ _).trans ?_
  simp only [e, List.map_cons, List.map_nil, List.sum_cons, List.sum_nil, Fin.sum_univ_succ, Fin.sum_univ_zero]
  show g 0 * x (ix2 r l) + _ = _
  rw [e5]
  simp only [Fin.val_zero, Fin.val_succ, Nat.reduceAdd, show dst 5 = 0 from rfl]
  abel

/-- The lane a window column brings in, inside or outside the image. -/
theorem from_lane (b : Fin 2) (w : Fin 32) (d : Fin 11) :
    (if h : 5 ≤ w.val + d.val ∧ w.val + d.val < 37 then from_ (lane b w) d = lane b ⟨w.val + d.val - 5, by omega⟩
      else ¬ inside (from_ (lane b w) d)) := by
  have hv : (from_ (lane b w) d).val = (8 + 64 * b.val + w.val + 123 + d.val) % 128 := rfl
  have := b.isLt
  have := w.isLt
  have := d.isLt
  split
  · next h =>
    refine Fin.ext ?_
    rw [hv]
    show _ = 8 + 64 * b.val + (w.val + d.val - 5)
    omega
  · next h =>
    unfold inside
    rw [hv]
    omega

variable {g : ℕ → Ideal .f32} {γ : ℕ → ℝ} {X : FVec Ideal S32x128 .f32} {f : Fin 2 → Px → ℝ}

/-- The window sum of a block with real images and nothing around them. -/
theorem conv_lane (hg : ∀ q, g q = (γ q : EReal)) (hx : ∀ r b w, X (ix2 r (lane b w)) = (f b (r, w) : EReal))
    (h0 : ∀ r l, ¬ inside l → X (ix2 r l) = 0) (r : Fin 32) (b : Fin 2) (w : Fin 32) :
    convV g X (ix2 r (lane b w)) = ((Reward.low (kern γ) (f b) (r, w) : ℝ) : EReal) := by
  have hv : ∀ w : Fin 32, vconvV g X (ix2 r (lane b w)) = ((∑ j : Fin 32, f b (j, w) * band γ r j : ℝ) : EReal) := fun w => by
    rw [vconv_at]
    have e : ∀ d : Fin 11, g (dst d.val) * rowsV X d (ix2 r (lane b w))
        = ((if h : 5 ≤ r.val + d.val ∧ r.val + d.val < 37 then f b (⟨r.val + d.val - 5, by omega⟩, w) * γ (dst d.val) else 0 : ℝ) : EReal) := fun d => by
      rw [rows_at, hg]
      split
      · rw [hx, ← EReal.coe_mul, mul_comm]
      · show _ * Ideal.ofBits .f32 0x00000000#32 = _
        rw [word_zero, ← EReal.coe_mul, mul_zero]
    rw [sum_congr rfl fun d _ => e d, coe_sum, window_sum r fun d j => f b (j, w) * γ (dst d.val)]
    congr 1
    refine sum_congr rfl fun j _ => ?_
    unfold band
    split
    · rfl
    · rw [mul_zero]
  have hv0 : ∀ l, ¬ inside l → vconvV g X (ix2 r l) = 0 := fun l hl => by
    rw [vconv_at]
    refine Finset.sum_eq_zero fun d _ => ?_
    rw [rows_at]
    split
    · rw [h0 _ _ hl, mul_zero]
    · show _ * Ideal.ofBits .f32 0x00000000#32 = _
      rw [word_zero, EReal.coe_zero, mul_zero]
  unfold convV
  rw [hconv_at]
  have e : ∀ d : Fin 11, g (dst d.val) * vconvV g X (ix2 r (from_ (lane b w) d))
      = ((if h : 5 ≤ w.val + d.val ∧ w.val + d.val < 37 then
          (∑ j : Fin 32, f b (j, ⟨w.val + d.val - 5, by omega⟩) * band γ r j) * γ (dst d.val) else 0 : ℝ) : EReal) := fun d => by
    have hl := from_lane b w d
    split
    · next h =>
      rw [dif_pos h] at hl
      rw [hl, hv, hg, ← EReal.coe_mul, mul_comm]
    · next h =>
      rw [dif_neg h] at hl
      rw [hv0 _ hl, mul_zero, EReal.coe_zero]
  rw [sum_congr rfl fun d _ => e d, coe_sum, window_sum w fun d k => (∑ j : Fin 32, f b (j, k) * band γ r j) * γ (dst d.val), low_kern]
  congr 1
  refine sum_congr rfl fun k _ => ?_
  unfold band
  split
  · rfl
  · rw [mul_zero]

end Cert.Proof
-- ==== Proof.Range.lean ====
module

public import proofs.«01_k».proof.Pre_in_range
public import proofs.«01_k».proof.Proof.WindowSum

/-!
# What the precondition says

Every probability is a real number and every value of the image lies between -128 and 128.
-/

@[expose] public section

noncomputable section

namespace Cert.Proof

open Idealize.ShloMosaic Cert.Pre_in_range

instance range_facts : Cert.Pre_in_range.Facts where
  bcast_S_S2x1x32x32 := by decide
  reducesTo_S2x1x32x32_S_d0_1_2_3 := by decide
  h_S_ := by decide

theorem and_one : ∀ a b : BitVec 1, IntOp.andi a b = 1#1 → a = 1#1 ∧ b = 1#1 := by decide

theorem fold_and {ι : Type} [DecidableEq ι] (f : ι → BitVec 1) (s : Finset ι) :
    s.fold IntOp.andi (1#1) f = 1#1 → ∀ i ∈ s, f i = 1#1 := by
  induction s using Finset.induction_on with
  | empty => exact fun _ i hi => absurd hi (Finset.notMem_empty i)
  | insert a s ha ih =>
    intro h i hi
    rw [Finset.fold_insert ha] at h
    obtain ⟨h1, h2⟩ := and_one _ _ h
    rcases Finset.mem_insert.1 hi with rfl | hi
    · exact h1
    · exact ih h2 i hi

theorem ofBool_one (p : Prop) [Decidable p] (h : BitVec.ofBool (decide p) = 1#1) : p := by
  by_contra hp
  rw [decide_eq_false hp] at h
  exact absurd h (by decide)

theorem range_apply (x y z : FVec Ideal S2x1x32x32 .f32) (h : fn x y z = fun _ => 1#1) (b : Fin 2) (r w : Fin 32) :
    (Ideal.ofBits .f32 0xFF800000#32 < x (ix4 b 0 r w) ∧ x (ix4 b 0 r w) < Ideal.ofBits .f32 0x7F800000#32)
      ∧ Ideal.ofBits .f32 0xC3000000#32 ≤ y (ix4 b 0 r w) ∧ y (ix4 b 0 r w) ≤ Ideal.ofBits .f32 0x43000000#32 := by
  replace h := congrFun h (Shape.Idx.first Facts.h_S_)
  unfold fn at h
  pointwise at h
  have h1 := fold_and _ _ h (ix4 b 0 r w) (Finset.mem_filter.2 ⟨Finset.mem_univ _, funext fun d => d.elim0⟩)
  obtain ⟨h1, h4⟩ := and_one _ _ h1
  obtain ⟨h1, h3⟩ := and_one _ _ h1
  obtain ⟨h1, h2⟩ := and_one _ _ h1
  exact ⟨⟨ofBool_one _ h2, ofBool_one _ h1⟩, ofBool_one _ h4, ofBool_one _ h3⟩

/-- The probabilities as real numbers. -/
theorem prob_real (x y z : FVec Ideal S2x1x32x32 .f32) (h : fn x y z = fun _ => 1#1) (b : Fin 2) (r w : Fin 32) :
    x (ix4 b 0 r w) = ((x (ix4 b 0 r w)).toReal : EReal) := by
  obtain ⟨⟨h1, h2⟩, -⟩ := range_apply x y z h b r w
  rw [word_bot] at h1
  rw [word_top] at h2
  exact (EReal.coe_toReal (ne_of_lt h2) (ne_of_gt h1)).symm

/-- The image as real numbers. -/
theorem image_real (x y z : FVec Ideal S2x1x32x32 .f32) (h : fn x y z = fun _ => 1#1) (b : Fin 2) (r w : Fin 32) :
    y (ix4 b 0 r w) = ((y (ix4 b 0 r w)).toReal : EReal) ∧ |(y (ix4 b 0 r w)).toReal| ≤ 128 := by
  obtain ⟨-, h1, h2⟩ := range_apply x y z h b r w
  rw [word_neg_128] at h1
  rw [word_128] at h2
  have e : y (ix4 b 0 r w) = ((y (ix4 b 0 r w)).toReal : EReal) :=
    (EReal.coe_toReal (fun t => by rw [t] at h2; exact absurd h2 (not_le_of_gt (EReal.coe_lt_top _)))
      (fun t => by rw [t] at h1; exact absurd h1 (not_le_of_gt (EReal.bot_lt_coe _)))).symm
  refine ⟨e, abs_le.2 ?_⟩
  rw [e, EReal.coe_le_coe_iff] at h1 h2
  exact ⟨h1, h2⟩

end Cert.Proof
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Range
public import Idealize.ShloMosaic.Lib.Claim

/-!
# The frames

Every program terminates, keeps its arguments and ends with its counters at zero.
-/

@[expose] public section

namespace Cert.Proof

open Idealize.ShloMosaic Idealize.SL.Sem

theorem frame_kernel : Cert.quiescent_Kernel := fun m g _ => Cert.Kernel.Gen.frame m g

theorem frame_ideal : Cert.quiescent_KernelIdeal := fun m g _ => Cert.KernelIdeal.Gen.frame m g

theorem frame_ideal_range : Cert.quiescent_KernelIdeal_pre_in_range := fun m g _ => Cert.KernelIdeal.Gen.frame m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_range : Cert.quiescent_ReferenceIdeal_pre_in_range := fun m g _ => frame_reference m g trivial

end Cert.Proof
-- ==== Proof.Runs.lean ====
module

public import proofs.«01_k».proof.Proof.Values
public import proofs.«01_k».proof.Proof.Gen.KernelIdeal.Frame.Runs

/-!
# What the stages leave in the buffers

Each stage of the body is run once here: from the contents of the buffers it works on, to the value
it hands on and the contents it leaves.
-/

@[expose] public section

noncomputable section

namespace Cert.Proof

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

local notation "𝕄" => MT nD τ sig Unit (Elt F) ℕ (UR sig nD τ) ℕ

/-- From `A`, the program `p` runs to the value `a` and leaves `B`. -/
def Tr (c : Dev nD) {α : Type} (p : PK F α) (A : sProp 𝕄) (a : α) (B : sProp 𝕄) : Prop :=
  ∀ K : α → sProp 𝕄, iprop(A ∗ (B -∗ K a)) ⊢ wp frame (wpE (defs₀ (F := F)) Variants.none c none) Set.univ p K

variable {c : Dev nD}

theorem Tr.pure {α : Type} (a : α) (A : sProp 𝕄) : Tr c (Pure.pure a : PK F α) A a A := fun K => by
  refine BIBase.Entails.trans ?_ (le_wp_ret _ _ _ a K)
  iintro ⟨HA, Hk⟩
  iapply Hk
  iexact HA

theorem Tr.bind {α β : Type} {p : PK F α} {f : α → PK F β} {A B C : sProp 𝕄} {a : α} {b : β}
    (h : Tr c p A a B) (h' : Tr c (f a) B b C) : Tr c (p >>= f) A b C := fun K => by
  rw [wp_bind]
  refine BIBase.Entails.trans ?_ (h _)
  iintro ⟨HA, Hk⟩
  isplitl [HA]; · iexact HA
  iintro HB
  iapply (h' K)
  isplitl [HB]; · iexact HB
  iexact Hk

theorem Tr.frame {α : Type} {p : PK F α} {A B : sProp 𝕄} {a : α} (R : sProp 𝕄) (h : Tr c p A a B) :
    Tr c p iprop(A ∗ R) a iprop(B ∗ R) := fun K => by
  refine BIBase.Entails.trans ?_ (h K)
  iintro ⟨⟨HA, HR⟩, Hk⟩
  isplitl [HA]; · iexact HA
  iintro HB
  iapply Hk
  isplitl [HB]; · iexact HB
  iexact HR

theorem Tr.frame' {α : Type} {p : PK F α} {A B : sProp 𝕄} {a : α} (R : sProp 𝕄) (h : Tr c p A a B) :
    Tr c p iprop(R ∗ A) a iprop(R ∗ B) := fun K => by
  refine BIBase.Entails.trans ?_ (h K)
  iintro ⟨⟨HR, HA⟩, Hk⟩
  isplitl [HA]; · iexact HA
  iintro HB
  iapply Hk
  isplitl [HR]; · iexact HR
  iexact HB

/-- A memref owned at some contents. -/
def anyAt {s : Shape} (c : Dev nD) (m : Memref sig .tc .vmem s .f32) : sProp 𝕄 :=
  iprop(∃ d, owns (c : Thread nD τ) m fullShare d)

/-- A stage that runs from any contents runs from some contents. -/
theorem Tr.any {α : Type} {s : Shape} {m : Memref sig .tc .vmem s .f32} {p : PK F α} {B : sProp 𝕄} {a : α}
    (h : ∀ X : Vec F s .f32, Tr c p (owns (c : Thread nD τ) m fullShare X) a B) : Tr c p (anyAt c m) a B := fun K => by
  unfold anyAt
  iintro ⟨⟨%d, HA⟩, Hk⟩
  iapply (h d K)
  isplitl [HA]; · iexact HA
  iexact Hk

/-- The contents left may be forgotten. -/
theorem Tr.forget {α : Type} {s : Shape} {m : Memref sig .tc .vmem s .f32} {p : PK F α} {A : sProp 𝕄} {a : α} {X : Vec F s .f32}
    (h : Tr c p A a (owns (c : Thread nD τ) m fullShare X)) : Tr c p A a (anyAt c m) := fun K => by
  refine BIBase.Entails.trans ?_ (h K)
  iintro ⟨HA, Hk⟩
  isplitl [HA]; · iexact HA
  iintro HB
  iapply Hk
  unfold anyAt
  iexists _
  iexact HB

theorem Tr.foldL {α β : Type} {f : β → α → PK F β} {h : β → α → β} {A : sProp 𝕄} (H : ∀ b a, Tr c (f b a) A (h b a) A) :
    ∀ (l : List α) (b : β), Tr c (Cert.Proof.foldL f l b) A (l.foldl h b) A
  | [], b => Tr.pure b A
  | a :: l, b => Tr.bind (H b a) (Tr.foldL H l (h b a))

theorem Tr.forL {α σ : Type} {f : α → PK F PUnit} {h : σ → α → σ} {A : σ → sProp 𝕄} (H : ∀ x a, Tr c (f a) (A x) ⟨⟩ (A (h x a))) :
    ∀ (l : List α) (x : σ), Tr c (Cert.Proof.forL f l) (A x) ⟨⟩ (A (l.foldl h x))
  | [], x => Tr.pure _ _
  | a :: l, x => Tr.bind (H x a) (Tr.forL H l (h x a))

/-! ## Loads and stores -/

theorem tr_ld {n : Nat} {sz : Fin n → Nat} (m : Memref sig .tc .vmem ⟨n, sz⟩ .f32) (off sz' : Fin n → Nat)
    (inb : ∀ a, off a + sz' a ≤ sz a) (hp : 0 < Shape.numel ⟨n, sz'⟩) (X : Vec F ⟨n, sz⟩ .f32) :
    Tr c (ld (F := F) m off sz' inb hp) (owns (c : Thread nD τ) m fullShare X) (window (s := ⟨n, sz⟩) X off sz' inb)
      (owns (c : Thread nD τ) m fullShare X) := fun K => by
  unfold owns ld
  iintro ⟨⟨%f, %hf, H⟩, Hk⟩
  iapply (wp_load (defs := defs₀ (F := F)) Variants.none (c : Thread nD τ) none Set.univ
    (m := m) (r := (Rect.unit (s := ⟨n, sz⟩) off sz' inb).toLoadRect) (q := fullShare) (S := m.view.set) (f := f)
    (View.setOn_subset_set _ _)) $$ H
  iintro H
  iapply (le_wp_ret _ _ _ _ K)
  rw [show m.view.readAt (Elt F) (Rect.unit (s := ⟨n, sz⟩) off sz' inb).toLoadRect f = window (s := ⟨n, sz⟩) X off sz' inb by
    subst hf; exact View.readAt_unit m.view f inb rfl inb]
  iapply Hk
  iexists f
  isplitr
  · ipureintro; exact hf
  iexact H

/-- A load of everything hands on the contents. -/
theorem tr_ld_full {n : Nat} {sz : Fin n → Nat} (m : Memref sig .tc .vmem ⟨n, sz⟩ .f32) (off : Fin n → Nat)
    (inb : ∀ a, off a + sz a ≤ sz a) (hp : 0 < Shape.numel ⟨n, sz⟩) (X : Vec F ⟨n, sz⟩ .f32) :
    Tr c (ld (F := F) m off sz inb hp) (owns (c : Thread nD τ) m fullShare X) X (owns (c : Thread nD τ) m fullShare X) := by
  have h := tr_ld (c := c) m off sz inb hp X
  rwa [window_full (s := ⟨n, sz⟩) X off inb] at h

theorem tr_store {n : Nat} {sz : Fin n → Nat} (m : Memref sig .tc .vmem ⟨n, sz⟩ .f32) (off sz' : Fin n → Nat)
    (inb : ∀ a, off a + sz' a ≤ sz a) (hp : 0 < Shape.numel ⟨n, sz'⟩) (v : Vec F ⟨n, sz'⟩ .f32) (X : Vec F ⟨n, sz⟩ .f32) :
    Tr c (Prog.lift (.store m (Rect.unit (s := ⟨n, sz⟩) off sz' inb) v Finset.univ (View.stores_vmem_bits_univ hp rfl) (.inl rfl)) : PK F PUnit)
      (owns (c : Thread nD τ) m fullShare X) ⟨⟩ (owns (c : Thread nD τ) m fullShare (put (s := ⟨n, sz⟩) X off sz' v)) := fun K => by
  unfold owns
  iintro ⟨⟨%f, %hf, H⟩, Hk⟩
  iapply (wp_store (defs := defs₀ (F := F)) Variants.none (c : Thread nD τ) none Set.univ
    (m := m) (r := Rect.unit (s := ⟨n, sz⟩) off sz' inb) (S := m.view.set) (f := f)
    (Memref.setOn_access_subset _ _ _)) $$ H
  iintro H
  iapply (le_wp_ret _ _ _ _ K)
  iapply Hk
  iexists _
  isplitr
  swap
  · iexact H
  ipureintro
  subst hf
  exact View.read_writes_cons_put m.view f inb v [] rfl

theorem tr_st {n : Nat} {sz : Fin n → Nat} (m : Memref sig .tc .vmem ⟨n, sz⟩ .f32) (off sz' : Fin n → Nat)
    (inb : ∀ a, off a + sz' a ≤ sz a) (hp : 0 < Shape.numel ⟨n, sz'⟩) (v : Vec F ⟨n, sz'⟩ .f32) (X : Vec F ⟨n, sz⟩ .f32) :
    Tr c (st (F := F) m off sz' inb hp v)
      (owns (c : Thread nD τ) m fullShare X) ⟨⟩ (owns (c : Thread nD τ) m fullShare (put (s := ⟨n, sz⟩) X off sz' v)) :=
  Tr.bind (tr_ld m off sz' inb hp X) (tr_store m off sz' inb hp v X)

/-- A store over everything leaves the payload. -/
theorem tr_st_full {n : Nat} {sz : Fin n → Nat} (m : Memref sig .tc .vmem ⟨n, sz⟩ .f32) (off : Fin n → Nat)
    (inb : ∀ a, off a + sz a ≤ sz a) (hp : 0 < Shape.numel ⟨n, sz⟩) (v : Vec F ⟨n, sz⟩ .f32) (X : Vec F ⟨n, sz⟩ .f32) :
    Tr c (st (F := F) m off sz inb hp v)
      (owns (c : Thread nD τ) m fullShare X) ⟨⟩ (owns (c : Thread nD τ) m fullShare v) := by
  have h := tr_st (c := c) m off sz inb hp v X
  rwa [put_full (s := ⟨n, sz⟩) X off inb v] at h

/-! ## The stages -/

theorem tr_images (m : Memref sig .tc .vmem S2x32x32 .f32) (X : Vec F S2x32x32 .f32) :
    Tr c (images (F := F) m) (owns (c : Thread nD τ) m fullShare X) (imagesV X) (owns (c : Thread nD τ) m fullShare X) :=
  Tr.bind (tr_ld m _ _ _ _ X) (Tr.bind (tr_ld m _ _ _ _ X) (Tr.pure _ _))

theorem tr_pack (m : Memref sig .tc .vmem S32x128 .f32) (x y : FVec F S32x32 .f32) :
    Tr c (pack (F := F) m x y) (anyAt c m) (packV x y) (anyAt c m) :=
  Tr.any fun X => Tr.forget (Tr.bind (tr_st_full m _ _ _ _ X) (Tr.bind (tr_st m _ _ _ _ _ _)
    (Tr.bind (tr_st m _ _ _ _ _ _) (tr_ld m _ _ _ _ _))))

theorem tr_vstep (m : Memref sig .tc .vmem S48x128 .f32) (g : Nat → F .f32) (x acc : FVec F S32x128 .f32) (i : Fin 11) :
    Tr c (vstep (F := F) m g acc i) (owns (c : Thread nD τ) m fullShare (padV x))
      (addf acc (mulf (broadcast S32x128 (g (dst i.val))) (rowsV x i))) (owns (c : Thread nD τ) m fullShare (padV x)) :=
  Tr.bind (tr_ld m _ _ _ _ _) (Tr.pure _ _)

theorem tr_conv (m : Memref sig .tc .vmem S48x128 .f32) (g : Nat → F .f32) (x : FVec F S32x128 .f32) :
    Tr c (conv (F := F) m g x) (anyAt c m) (convV g x) (anyAt c m) :=
  Tr.any fun X => Tr.forget (X := padV x) (Tr.bind (tr_st_full m _ _ _ _ X) (Tr.bind (tr_st m _ _ _ _ _ _)
    (Tr.bind (tr_ld m _ _ _ _ _) (Tr.bind (Tr.foldL (fun b a => tr_vstep m g x b a) _ _) (Tr.pure _ _)))))

theorem tr_tabSide (m : Memref sig .tc .vmem S84x48x128 .f32) (e : Env F) (k d : F .f32) (j : Nat) (hj : j + 2 ≤ 84) (T : FVec F S84x48x128 .f32) :
    Tr c (tabSide (F := F) m e k d j hj) (owns (c : Thread nD τ) m fullShare T) ⟨⟩ (owns (c : Thread nD τ) m fullShare (sideV e k d j T)) :=
  Tr.bind (tr_st m _ _ _ _ _ _) (tr_st m _ _ _ _ _ _)

theorem tr_tabStep (m : Memref sig .tc .vmem S84x48x128 .f32) (e : Env F) (T : FVec F S84x48x128 .f32) (i : Fin 21) :
    Tr c (tabStep (F := F) m e i) (owns (c : Thread nD τ) m fullShare T) ⟨⟩ (owns (c : Thread nD τ) m fullShare (tabStepV e T i)) :=
  Tr.bind (tr_tabSide m e _ _ _ _ _) (tr_tabSide m e _ _ _ _ _)

theorem tr_copyStep (m : Memref sig .tc .vmem S84x48x128 .f32) (m' : Memref sig .tc .vmem S24x48x128 .f32) (T : FVec F S84x48x128 .f32)
    (dx : Fin 11) (Y : FVec F S24x48x128 .f32) (s : Fin 24) :
    Tr c (copyStep (F := F) m m' dx s) iprop(owns (c : Thread nD τ) m fullShare T ∗ owns (c : Thread nD τ) m' fullShare Y) ⟨⟩
      iprop(owns (c : Thread nD τ) m fullShare T ∗ owns (c : Thread nD τ) m' fullShare (copyV T dx Y s)) :=
  Tr.bind (Tr.frame _ (tr_ld m _ _ _ _ _)) (Tr.frame' _ (tr_st m' _ _ _ _ _ _))

theorem tr_accStep (m' : Memref sig .tc .vmem S24x48x128 .f32) (Y : FVec F S24x48x128 .f32) (pos : IVec S32x128 1)
    (x acc : FVec F S32x128 .f32) (dy : Fin 11) :
    Tr c (accStep (F := F) m' pos x acc dy) (owns (c : Thread nD τ) m' fullShare Y) (accV Y pos x acc dy) (owns (c : Thread nD τ) m' fullShare Y) :=
  Tr.bind (tr_ld m' _ _ _ _ _) (Tr.bind (tr_ld m' _ _ _ _ _) (Tr.bind (tr_ld m' _ _ _ _ _) (Tr.bind (tr_ld m' _ _ _ _ _) (Tr.pure _ _))))

theorem tr_colStep (m : Memref sig .tc .vmem S84x48x128 .f32) (m' : Memref sig .tc .vmem S24x48x128 .f32) (T : FVec F S84x48x128 .f32)
    (pos : IVec S32x128 1) (x acc : FVec F S32x128 .f32) (dx : Fin 11) :
    Tr c (colStep (F := F) m m' pos x acc dx) iprop(anyAt c m' ∗ owns (c : Thread nD τ) m fullShare T) (colV T pos x acc dx)
      iprop(anyAt c m' ∗ owns (c : Thread nD τ) m fullShare T) := fun K => by
  have h (Y : FVec F S24x48x128 .f32) :
      Tr c (colStep (F := F) m m' pos x acc dx) iprop(owns (c : Thread nD τ) m fullShare T ∗ owns (c : Thread nD τ) m' fullShare Y)
        (colV T pos x acc dx) iprop(owns (c : Thread nD τ) m fullShare T ∗ owns (c : Thread nD τ) m' fullShare (copiesV T dx)) := by
    have h1 := Tr.forL (A := fun Y => iprop(owns (c : Thread nD τ) m fullShare T ∗ owns (c : Thread nD τ) m' fullShare Y))
      (h := copyV T dx) (fun Y s => tr_copyStep (c := c) m m' T dx Y s)
      [0, 1, 2, 3, 4, 5, 6, 7, 8, 9, 10, 11, 12, 13, 14, 15, 16, 17, 18, 19, 20, 21, 22, 23] Y
    rw [copies_all] at h1
    exact Tr.bind h1 (Tr.frame' _ (Tr.foldL (fun b a => tr_accStep (c := c) m' (copiesV T dx) pos x b a) _ acc))
  unfold anyAt
  iintro ⟨⟨⟨%Y, HY⟩, HT⟩, Hk⟩
  iapply (h Y K)
  isplitl [HT HY]
  · isplitl [HT]; · iexact HT
    iexact HY
  iintro ⟨HT, HY⟩
  iapply Hk
  isplitl [HY]
  · iexists _; iexact HY
  iexact HT

/-! ## The whole body -/

theorem tr_body (a0 a1 : Memref sig .tc .vmem S2x32x32 .f32) (a2 : Memref sig .tc .vmem S32x128 .f32)
    (a3 : Memref sig .tc .vmem S1x1 .f32) (a4 : Memref sig .tc .vmem S32x128 .f32) (a5 : Memref sig .tc .vmem S48x128 .f32)
    (a6 : Memref sig .tc .vmem S84x48x128 .f32) (a7 : Memref sig .tc .vmem S24x48x128 .f32)
    (x0 x1 : Vec F S2x32x32 .f32) (x2 : Vec F S32x128 .f32) (K : PUnit → sProp 𝕄) :
    iprop(owns (c : Thread nD τ) a0 fullShare x0 ∗ owns (c : Thread nD τ) a1 fullShare x1 ∗ owns (c : Thread nD τ) a2 fullShare x2
        ∗ anyAt c a3 ∗ anyAt c a4 ∗ anyAt c a5 ∗ anyAt c a6 ∗ anyAt c a7
        ∗ (iprop(owns (c : Thread nD τ) a0 fullShare x0 ∗ owns (c : Thread nD τ) a1 fullShare x1 ∗ owns (c : Thread nD τ) a2 fullShare x2
            ∗ owns (c : Thread nD τ) a3 fullShare (kernelV x0 x1 x2) ∗ anyAt c a4 ∗ anyAt c a5 ∗ anyAt c a6 ∗ anyAt c a7) -∗ K ⟨⟩))
      ⊢ wp frame (wpE (defs₀ (F := F)) Variants.none c none) Set.univ (body (F := F) a0 a1 a2 a3 a4 a5 a6 a7) K := by
  iintro ⟨H0, H1, H2, H3, H4, H5, H6, H7, Hk⟩
  unfold body
  rw [wp_bind]; iapply (tr_images a0 x0 _); isplitl [H0]; · iexact H0
  iintro H0
  rw [wp_bind]; iapply (tr_pack a4 _ _ _); isplitl [H4]; · iexact H4
  iintro H4
  rw [wp_bind]; iapply (tr_images a1 x1 _); isplitl [H1]; · iexact H1
  iintro H1
  rw [wp_bind]; iapply (tr_pack a4 _ _ _); isplitl [H4]; · iexact H4
  iintro H4
  rw [wp_bind]; iapply (tr_pack a4 _ _ _); isplitl [H4]; · iexact H4
  iintro H4
  rw [wp_bind]; iapply (tr_ld_full a2 _ _ _ x2 _); isplitl [H2]; · iexact H2
  iintro H2
  rw [wp_bind]; iapply (tr_conv a5 _ _ _); isplitl [H5]; · iexact H5
  iintro H5
  rw [wp_bind]; iapply (tr_conv a5 _ _ _); isplitl [H5]; · iexact H5
  iintro H5
  rw [wp_bind]; iapply (tr_conv a5 _ _ _); isplitl [H5]; · iexact H5
  iintro H5
  rw [wp_bind]; iapply (tr_conv a5 _ _ _); isplitl [H5]; · iexact H5
  iintro H5
  rw [wp_bind]; iapply (tr_conv a5 _ _ _); isplitl [H5]; · iexact H5
  iintro H5
  rw [wp_bind]; iapply (tr_conv a5 _ _ _); isplitl [H5]; · iexact H5
  iintro H5
  rw [wp_bind]; iapply (tr_conv a5 _ _ _); isplitl [H5]; · iexact H5
  iintro H5
  rw [wp_bind]; iapply (tr_conv a5 _ _ _); isplitl [H5]; · iexact H5
  iintro H5
  rw [wp_bind]; iapply (Tr.any (fun X => tr_st_full a6 _ _ _ _ X) _); isplitl [H6]; · iexact H6
  iintro H6
  rw [wp_bind]; iapply (Tr.forL (A := fun T => owns (c : Thread nD τ) a6 fullShare T) (fun T i => tr_tabStep a6 _ T i) _ _ _)
  isplitl [H6]; · iexact H6
  iintro H6
  rw [wp_bind]; iapply (Tr.foldL (fun b a => tr_colStep a6 a7 _ _ _ b a) _ _ _)
  isplitl [H6 H7]
  · isplitl [H7]; · iexact H7
    iexact H6
  iintro ⟨H7, H6⟩
  iapply (Tr.any (fun X => tr_st_full a3 _ _ _ _ X) _); isplitl [H3]; · iexact H3
  iintro H3
  iapply Hk
  isplitl [H0]; · iexact H0
  isplitl [H1]; · iexact H1
  isplitl [H2]; · iexact H2
  isplitl [H3]
  · unfold kernelV
    iexact H3
  isplitl [H4]; · iexact H4
  isplitl [H5]; · iexact H5
  isplitl [H6]; · unfold anyAt; iexists _; iexact H6
  iexact H7

end Cert.Proof
-- ==== Proof.BodyEq.lean ====
module

public import proofs.«01_k».proof.Proof.Body
public import Idealize.ShloMosaic.Lib.Tactic

/-!
# The printed body is the program with loops
-/

@[expose] public section

namespace Cert.Proof

open Idealize.ShloMosaic Idealize.SL.Sem Cert.KernelIdeal

variable {F : FTy → Type} [FloatOps F] [Named F] [Cert.KernelIdeal.Facts]

theorem body_eq (arg0 : Memref sig .tc .vmem S2x32x32 .f32) (harg0 : arg0.IsWhole) (arg1 : Memref sig .tc .vmem S2x32x32 .f32)
    (harg1 : arg1.IsWhole) (arg2 : Memref sig .tc .vmem S32x128 .f32) (harg2 : arg2.IsWhole)
    (arg3 : Memref sig .tc .vmem S1x1 .f32) (harg3 : arg3.IsWhole) (arg4 : Memref sig .tc .vmem S32x128 .f32)
    (harg4 : arg4.IsWhole) (arg5 : Memref sig .tc .vmem S48x128 .f32) (harg5 : arg5.IsWhole)
    (arg6 : Memref sig .tc .vmem S84x48x128 .f32) (harg6 : arg6.IsWhole)
    (arg7 : Memref sig .tc .vmem S24x48x128 .f32) (harg7 : arg7.IsWhole) :
    cc0__marl_kernel (F := F) arg0 harg0 arg1 harg1 arg2 harg2 arg3 harg3 arg4 harg4 arg5 harg5 arg6 harg6 arg7 harg7
      = body arg0 arg1 arg2 arg3 arg4 arg5 arg6 arg7 := by
  sl_kernel_rfl

end Cert.Proof
-- ==== Proof.Launch.lean ====
module

public import proofs.«01_k».proof.Proof.Runs
public import proofs.«01_k».proof.Proof.BodyEq
public import Idealize.ShloMosaic.Lib.Claim
public import Idealize.ShloMosaic.Lib.Pipeline.Value

/-!
# The kernel's run

The launch, with the result array named: it ends at `kernelV` of the three arrays the kernel is
called with.
-/

@[expose] public section

set_option maxRecDepth 16384

noncomputable section

namespace Cert.Proof

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the result's buffer holds after the one point. -/
def outAt (c : Dev nD) (t : Fin cfg0.N) : Vec F S1x1 .f32 := kernelV (iblk m c 0 t) (iblk m c 1 t) (iblk m c 2 t)

/-- The proof data: the inputs stay, the output ends at `outAt`. -/
def pd (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem pd_A (c : Dev nD) (w : Fin cfg0.W) : (pd m 0 c).A w = V m c (Pipeline.arrRef spec0 w) := by
  dsimp only [pd]

theorem pd_after0 (c : Dev nD) (t : Fin cfg0.N) : (pd m 0 c).after 0 t = iblk m c 0 t := by dsimp only [pd]
theorem pd_after1 (c : Dev nD) (t : Fin cfg0.N) : (pd m 0 c).after 1 t = iblk m c 1 t := by dsimp only [pd]
theorem pd_after2 (c : Dev nD) (t : Fin cfg0.N) : (pd m 0 c).after 2 t = iblk m c 2 t := by dsimp only [pd]
theorem pd_after3 (c : Dev nD) (t : Fin cfg0.N) : (pd m 0 c).after 3 t = outAt m c t := by dsimp only [pd]

theorem pd_before0 (c : Dev nD) (t : Fin cfg0.N) (d) : (pd m 0 c).before 0 t d = iblk m c 0 t :=
  before0_0_of m (pd m 0 c) (pd_A m c 0) (pd_after0 m c) t d
theorem pd_before1 (c : Dev nD) (t : Fin cfg0.N) (d) : (pd m 0 c).before 1 t d = iblk m c 1 t :=
  before0_1_of m (pd m 0 c) (pd_A m c 1) (pd_after1 m c) t d
theorem pd_before2 (c : Dev nD) (t : Fin cfg0.N) (d) : (pd m 0 c).before 2 t d = iblk m c 2 t :=
  before0_2_of m (pd m 0 c) (pd_A m c 2) (pd_after2 m c) t d

/-- What the body is called with, -/
def pre (c : Dev nD) (t : Fin cfg0.N) : sProp 𝕄 :=
  iprop((pd m 0 c).Φ t.castSucc ∗ (pd m 0 c).owesAt () t.castSucc
    ∗ (∃ d, owns (c : Thread nD τ) (ms0_0 t) fullShare ((pd m 0 c).before 0 t d))
    ∗ (∃ d, owns (c : Thread nD τ) (ms0_1 t) fullShare ((pd m 0 c).before 1 t d))
    ∗ (∃ d, owns (c : Thread nD τ) (ms0_2 t) fullShare ((pd m 0 c).before 2 t d))
    ∗ (∃ d, owns (c : Thread nD τ) (ms0_3 t) fullShare ((pd m 0 c).before 3 t d)))

/-- and what it returns. -/
def post (c : Dev nD) (t : Fin cfg0.N) : sProp 𝕄 :=
  iprop((pd m 0 c).Φ t.succ ∗ (pd m 0 c).owesAt () t.succ
    ∗ owns (c : Thread nD τ) (ms0_0 t) fullShare ((pd m 0 c).after 0 t)
    ∗ owns (c : Thread nD τ) (ms0_1 t) fullShare ((pd m 0 c).after 1 t)
    ∗ owns (c : Thread nD τ) (ms0_2 t) fullShare ((pd m 0 c).after 2 t)
    ∗ owns (c : Thread nD τ) (ms0_3 t) fullShare ((pd m 0 c).after 3 t))

set_option maxHeartbeats 800000 in
theorem body_sound (c : Dev nD) (t : Fin cfg0.N) :
    pre m c t ⊢ wp frame (wpE (defs₀ (F := F)) Variants.none c none) Set.univ (bodyAt0 t) (fun _ => post m c t) := by
  unfold pre post bodyAt0
  simp only [pd_before0, pd_before1, pd_before2]
  rw [show (pd m 0 c).Φ t.succ = (pd m 0 c).Φ t.castSucc from rfl,
    show (pd m 0 c).owesAt () t.succ = (pd m 0 c).owesAt () t.castSucc from rfl,
    pd_after0, pd_after1, pd_after2, pd_after3]
  rw [show (pd m 0 c).Φ t.castSucc = Pipeline.ΦA spec0 c from rfl, PhiA0_eq]
  rw [body_eq]
  iintro ⟨⟨⟨HS0, HS1, HS2, HS3⟩, Hg⟩, Ho, ⟨%d0, H0⟩, ⟨%d1, H1⟩, ⟨%d2, H2⟩, ⟨%d3, H3⟩⟩
  iapply (tr_body (c := c) _ _ _ _ _ _ _ _ (iblk m c 0 t) (iblk m c 1 t) (iblk m c 2 t) _)
  unfold anyAt
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

theorem block_row_eq (t : Fin cfg0.N) :
    defs₀ (F := F) .tc cfg0.body (cfg0.bodyArgs t (cfg0.slots t)) = bodyAt0 t := by
  unfold defs₀; rw [Defs.onTc_tc]

theorem obligation (c : Dev nD) : BodyObligation (pd (F := F) m 0 c) (defs₀ (F := F)) Variants.none () Set.univ := fun t => by
  rw [bigSep_W0, bigSep_W0, block_row_eq]
  exact triple_restated (body_sound m c t) rfl .rfl fun _ => .rfl

set_option backward.isDefEq.respectTransparency.types false in
theorem run_post : θ_run defs (onTc (τ := τ) (main (F := F))) (s₀ m ρ) (fun r => Pipeline.FramePost cfgs (pd m) 0 (V m) r ∧ r.2.sem = fun _ => 0) :=
  Pipeline.θ_run_frame (Q' := _) cfgs (pd m) (0 : Fin 1) launch0 defs₀ Variants.none m ρ main
    (hbody := fun c => (obligation m c).loose) (hshare := fun c => (pd m 0 c).share_full fun _ => rfl)
    (howed := fun _ _ => rfl) (V := V m) (hmain := hmain m Variants.none) (hA := pd_A m) (hΦ := fun _ _ => rfl)

/-! ## The arrays -/

/-- The picture the reshape hands the kernel. -/
def flat (x : Vec F S2x1x32x32 .f32) : Vec F S2x32x32 .f32 := shapeCast S2x32x32 x shapeCasts_S2x1x32x32_S2x32x32

/-- The packed thresholds. -/
def thr : Vec F S32x128 .f32 := fun i => FloatOps.ofBits .f32 (lit0 (S32x128.rowMajor i))

/-- The result for the two pictures. -/
def result (p x : Vec F S2x1x32x32 .f32) : FVec F S1x1 .f32 := kernelV (flat p) (flat x) thr

theorem V_v0 (c : Dev nD) : V m c main_v0 = flat (m ((c : Thread nD τ).loc main_arg0)) := by
  unfold V hostOps0
  after_results
  rfl

theorem V_v1 (c : Dev nD) : V m c main_v1 = flat (m ((c : Thread nD τ).loc main_arg1)) := by
  unfold V hostOps0
  after_results
  rfl

theorem V_cst (c : Dev nD) : V m c main_cst = thr := by
  unfold V hostOps0
  after_results
  rfl

theorem iblk0 (c : Dev nD) (t : Fin cfg0.N) : iblk m c 0 t = V m c main_v0 := by
  obtain rfl := fin_N0 t
  funext i
  show V m c main_v0 ((win0_0.rect t0_0).emb i) = V m c main_v0 i
  refine congrArg _ (funext fun a => Fin.ext ?_)
  have h : ∀ a, win0_0.index t0_0 a * win0_0.size a = 0 := by decide +kernel
  show win0_0.index t0_0 a * win0_0.size a + 1 * (i a).val = (i a).val
  rw [h]; omega

theorem iblk1 (c : Dev nD) (t : Fin cfg0.N) : iblk m c 1 t = V m c main_v1 := by
  obtain rfl := fin_N0 t
  funext i
  show V m c main_v1 ((win0_1.rect t0_0).emb i) = V m c main_v1 i
  refine congrArg _ (funext fun a => Fin.ext ?_)
  have h : ∀ a, win0_1.index t0_0 a * win0_1.size a = 0 := by decide +kernel
  show win0_1.index t0_0 a * win0_1.size a + 1 * (i a).val = (i a).val
  rw [h]; omega

theorem iblk2 (c : Dev nD) (t : Fin cfg0.N) : iblk m c 2 t = V m c main_cst := by
  obtain rfl := fin_N0 t
  funext i
  show V m c main_cst ((win0_2.rect t0_0).emb i) = V m c main_cst i
  refine congrArg _ (funext fun a => Fin.ext ?_)
  have h : ∀ a, win0_2.index t0_0 a * win0_2.size a = 0 := by decide +kernel
  show win0_2.index t0_0 a * win0_2.size a + 1 * (i a).val = (i a).val
  rw [h]; omega

/-- The result of device `c`. -/
abbrev res (c : Dev nD) : Buf (Elt F) ((c : Thread nD τ).loc main_v2) :=
  result (m ((c : Thread nD τ).loc main_arg0)) (m ((c : Thread nD τ).loc main_arg1))

theorem outAt_eq (c : Dev nD) (t : Fin cfg0.N) : outAt m c t = res m c := by
  unfold outAt res result
  rw [iblk0, iblk1, iblk2, V_v0, V_v1, V_cst]

theorem flushed_eq (c : Dev nD) (t : Fin cfg0.N) :
    (pd m 0 c).flushed 3 t = (win0_3.blk t).view.read (Elt F) (res m c) := by
  show (cfg0.win 3).cut (grid0.coords t) ((pd m 0 c).after 3 t) = _
  rw [pd_after3, outAt_eq]
  funext i
  show res m c _ = res m c _
  refine congrArg _ (funext fun a => ?_)
  match a with
  | 0 => exact Subsingleton.elim (α := Fin 1) _ _
  | 1 => exact Subsingleton.elim (α := Fin 1) _ _

theorem cover (i : S1x1.Idx) :
    ∃ t : Fin cfg0.N, (cfg0.win 3).flush t = true ∧ i ∈ ((cfg0.win 3).blk t).view.set := by
  refine ⟨t0_0, flush0_3 _, ?_⟩
  show i ∈ ((View.whole main_v2).slice (win0_3.rect t0_0)).set
  rw [View.set_slice_whole, Rect.mem_set_unit]
  have h : ∀ a, win0_3.index t0_0 a * win0_3.size a = 0 ∧ win0_3.xsize (grid0.coords t0_0) a = 1 := by decide +kernel
  intro a
  show win0_3.index t0_0 a * win0_3.size a ≤ (i a).val ∧ (i a).val < win0_3.index t0_0 a * win0_3.size a + win0_3.xsize (grid0.coords t0_0) a
  rw [(h a).1, (h a).2]
  have hi : (i a).val < 1 := by
    match a with
    | 0 => exact (i 0).isLt
    | 1 => exact (i 1).isLt
  omega

theorem final (c : Dev nD) : (pd m 0 c).arrAt 3 cfg0.N = res m c :=
  (pd m 0 c).arrAt_eq_of_cover 3 (res m c) (fun t _ => flushed_eq m c t) cover

/-- The kernel's run: the result named, the arguments unchanged. -/
theorem kernel_run : θ_run defs (onTc (τ := τ) (main (F := F))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have h := (θ_run defs (onTc (τ := τ) (main (F := F))) (s₀ m ρ)).mono (fun _ h => h.1) (run_post m ρ)
  exact (θ_run defs _ _).mono (fun _ ⟨h1, h2⟩ c => ⟨((h1 c).1 3).trans (final m c), h2 c⟩) (θ_run_and h (frame_of m ρ (pd m) (pd_A m) h))

end Cert.Proof
-- ==== Proof.Table.lean ====
module

public import proofs.«01_k».proof.Proof.WindowSum

/-!
# The accumulation over the window

The entry of the table that each window position reads, and the sum over the window they give.
-/

@[expose] public section

noncomputable section

namespace Cert.Proof

open Idealize.ShloMosaic Cert.KernelIdeal VecWindow Finset

variable (e : Env Ideal)

/-- The table entry `q` of the class `c`. -/
def entry (c : ℕ) : Fin 4 → FVec Ideal S32x128 .f32
  | 0 => mulf (tabQ e (row c).k) (tabN e (row c).k)
  | 1 => mulf (broadcast S32x128 (row c).d) (tabQ e (row c).k)
  | 2 => mulf (tabQ e (row c).m) (tabN e (row c).m)
  | 3 => mulf (broadcast S32x128 (row c).n) (tabQ e (row c).m)

/-- What the table holds. -/
def target (s : Fin 84) (a : Fin 48) (l : Fin 128) : EReal :=
  if h : 8 ≤ a.val ∧ a.val < 40 then entry e (s.val / 4) ⟨s.val % 4, by omega⟩ (ix2 ⟨a.val - 8, by omega⟩ l) else 0

theorem put_slot (T : FVec Ideal S84x48x128 .f32) (j : ℕ) (w : FVec Ideal S1x32x128 .f32) (s : Fin 84) (a : Fin 48) (l : Fin 128) :
    put (s := S84x48x128) T ![j, 8, 0] S1x32x128.size w (ix3 s a l)
      = if h : s.val = j ∧ 8 ≤ a.val ∧ a.val < 40 then w (ix3 0 ⟨a.val - 8, by omega⟩ l) else T (ix3 s a l) := by
  split
  · next h =>
    exact put_in (s := S84x48x128) _ ![j, 8, 0] S1x32x128.size _ _ (ix3 (0 : Fin 1) (⟨a.val - 8, by omega⟩ : Fin 32) l)
      (fun | 0 => h.1 | 1 => by show a.val = 8 + (a.val - 8); omega | 2 => (Nat.zero_add _).symm)
  · next h =>
    by_cases h0 : s.val = j
    · exact put_out (s := S84x48x128) _ ![j, 8, 0] S1x32x128.size _ _ (1 : Fin 3) (by show a.val < 8 ∨ 8 + 32 ≤ a.val; omega)
    · exact put_out (s := S84x48x128) _ ![j, 8, 0] S1x32x128.size _ _ (0 : Fin 3) (by show s.val < j ∨ j + 1 ≤ s.val; omega)

theorem step_at (T : FVec Ideal S84x48x128 .f32) (c : Fin 21) (s : Fin 84) (a : Fin 48) (l : Fin 128) :
    tabStepV e T c (ix3 s a l) = if s.val / 4 = c.val ∧ 8 ≤ a.val ∧ a.val < 40 then target e s a l else T (ix3 s a l) := by
  unfold tabStepV sideV
  rw [put_slot, put_slot, put_slot, put_slot]
  by_cases ha : 8 ≤ a.val ∧ a.val < 40
  · by_cases hs : s.val / 4 = c.val
    · rw [if_pos ⟨hs, ha⟩]
      unfold target
      rw [dif_pos ha]
      have hq : s.val = 4 * c.val ∨ s.val = 4 * c.val + 1 ∨ s.val = 4 * c.val + 2 ∨ s.val = 4 * c.val + 3 := by omega
      rcases hq with hq | hq | hq | hq
      · rw [dif_neg (by omega), dif_neg (by omega), dif_neg (by omega), dif_pos ⟨hq, ha⟩, hs,
          show (⟨s.val % 4, by omega⟩ : Fin 4) = 0 from Fin.ext (by show s.val % 4 = 0; omega)]
        pointwise [entry]
      · rw [dif_neg (by omega), dif_neg (by omega), dif_pos ⟨hq, ha⟩, hs,
          show (⟨s.val % 4, by omega⟩ : Fin 4) = 1 from Fin.ext (by show s.val % 4 = 1; omega)]
        pointwise [entry]
      · rw [dif_neg (by omega), dif_pos ⟨hq, ha⟩, hs,
          show (⟨s.val % 4, by omega⟩ : Fin 4) = 2 from Fin.ext (by show s.val % 4 = 2; omega)]
        pointwise [entry]
      · rw [dif_pos ⟨hq, ha⟩, hs,
          show (⟨s.val % 4, by omega⟩ : Fin 4) = 3 from Fin.ext (by show s.val % 4 = 3; omega)]
        pointwise [entry]
    · rw [dif_neg (by omega), dif_neg (by omega), dif_neg (by omega), dif_neg (by omega), if_neg (by omega)]
  · rw [dif_neg (by omega), dif_neg (by omega), dif_neg (by omega), dif_neg (by omega), if_neg (by omega)]

theorem tab_foldl (s : Fin 84) (a : Fin 48) (l : Fin 128) (L : List (Fin 21)) :
    ∀ T : FVec Ideal S84x48x128 .f32, ((8 ≤ a.val ∧ a.val < 40 ∧ ∃ c ∈ L, s.val / 4 = c.val) ∨ T (ix3 s a l) = target e s a l) →
      L.foldl (tabStepV e) T (ix3 s a l) = target e s a l := by
  induction L with
  | nil =>
    rintro T (⟨_, _, c, hc, _⟩ | h)
    · exact absurd hc List.not_mem_nil
    · exact h
  | cons c L ih =>
    intro T h
    rw [List.foldl_cons]
    apply ih
    rw [step_at]
    by_cases h0 : s.val / 4 = c.val ∧ 8 ≤ a.val ∧ a.val < 40
    · exact .inr (if_pos h0)
    · rw [if_neg h0]
      rcases h with ⟨h1, h2, d, hd, h⟩ | h
      · rcases List.mem_cons.1 hd with rfl | hd
        · exact absurd ⟨h, h1, h2⟩ h0
        · exact .inl ⟨h1, h2, d, hd, h⟩
      · exact .inr h

theorem tab_at (s : Fin 84) (a : Fin 48) (l : Fin 128) : tabV e (ix3 s a l) = target e s a l := by
  unfold tabV
  apply tab_foldl
  by_cases h : 8 ≤ a.val ∧ a.val < 40
  · have hm : ∀ k : Fin 21, k ∈ ([0, 1, 2, 3, 4, 5, 6, 7, 8, 9, 10, 11, 12, 13, 14, 15, 16, 17, 18, 19, 20] : List (Fin 21)) := by decide
    exact .inl ⟨h.1, h.2, ⟨s.val / 4, by omega⟩, hm _, rfl⟩
  · refine .inr ?_
    unfold target
    rw [dif_neg h]
    pointwise

/-- The table entry a window position reads. -/
theorem read_at (T : FVec Ideal S84x48x128 .f32) (dx dy : Fin 11) (k : Fin 4) (r : Fin 32) (l : Fin 128) :
    readV (copiesV T dx) dy k (ix2 r l)
      = T (ix3 ⟨4 * (cls (dst dx.val) (dst dy.val) % 21) + k.val, by omega⟩ ⟨3 + dy.val + r.val, by omega⟩ (from_ l dx)) := by
  have hd := dst_le dy
  unfold readV
  have e1 : ∀ x : FVec Ideal S1x32x128 .f32, shapeCast (s := S1x32x128) S32x128 x (by decide) (ix2 r l) = x (ix3 0 r l) := fun x => by pointwise
  have e2 : ∀ x : FVec Ideal S48x128 .f32, ∀ a : Fin 48, shapeCast (s := S48x128) S1x48x128 x (by decide) (ix3 0 a l) = x (ix2 a l) := fun x a => by pointwise
  have e3 : ∀ x : FVec Ideal S1x48x128 .f32, ∀ a : Fin 48, ∀ l : Fin 128, shapeCast (s := S1x48x128) S48x128 x (by decide) (ix2 a l) = x (ix3 0 a l) := fun x a l => by pointwise
  rw [e1]
  refine (window_at (s := S24x48x128) _ ![4 * dst dy.val + k.val, 3 + dy.val, 0] S1x32x128.size _ (ix3 (0 : Fin 1) r l)
    (ix3 (⟨4 * dst dy.val + k.val, by omega⟩ : Fin 24) (⟨3 + dy.val + r.val, by omega⟩ : Fin 48) l)
    (fun | 0 => rfl | 1 => rfl | 2 => (Nat.zero_add _).symm)).trans ?_
  have e4 : copiesV T dx (ix3 (⟨4 * dst dy.val + k.val, by omega⟩ : Fin 24) (⟨3 + dy.val + r.val, by omega⟩ : Fin 48) l)
      = slotV T dx ⟨4 * dst dy.val + k.val, by omega⟩ (ix3 0 ⟨3 + dy.val + r.val, by omega⟩ l) := by
    unfold copiesV
    refine congrArg (slotV T dx _) (funext fun | 0 => rfl | 1 => rfl | 2 => rfl)
  rw [e4]
  unfold slotV
  rw [e2, shift_at, e3]
  refine window_at (s := S84x48x128) _ _ S1x48x128.size _ (ix3 (0 : Fin 1) (⟨3 + dy.val + r.val, by omega⟩ : Fin 48) (from_ l dx)) _
    (fun | 0 => ?_ | 1 => (Nat.zero_add _).symm | 2 => (Nat.zero_add _).symm)
  show 4 * (cls (dst dx.val) (dst dy.val) % 21) + k.val
    = 4 * (cls (dst dx.val) ((4 * dst dy.val + k.val) / 4) % 21) + (4 * dst dy.val + k.val) % 4 + 0
  rw [show (4 * dst dy.val + k.val) / 4 = dst dy.val by omega]
  omega

theorem read_tab (dx dy : Fin 11) (k : Fin 4) (r : Fin 32) (l : Fin 128) :
    readV (copiesV (tabV e) dx) dy k (ix2 r l)
      = if h : 5 ≤ r.val + dy.val ∧ r.val + dy.val < 37 then
          entry e (cls (dst dx.val) (dst dy.val) % 21) k (ix2 ⟨r.val + dy.val - 5, by omega⟩ (from_ l dx)) else 0 := by
  rw [read_at, tab_at]
  unfold target
  by_cases h : 5 ≤ r.val + dy.val ∧ r.val + dy.val < 37
  · rw [dif_pos h, dif_pos (by show 8 ≤ 3 + dy.val + r.val ∧ 3 + dy.val + r.val < 40; omega)]
    have h1 : (4 * (cls (dst dx.val) (dst dy.val) % 21) + k.val) / 4 = cls (dst dx.val) (dst dy.val) % 21 := by omega
    have h2 : (⟨(4 * (cls (dst dx.val) (dst dy.val) % 21) + k.val) % 4, by omega⟩ : Fin 4) = k := Fin.ext (by
      show (4 * (cls (dst dx.val) (dst dy.val) % 21) + k.val) % 4 = k.val
      omega)
    have h3 : (⟨3 + dy.val + r.val - 8, by omega⟩ : Fin 32) = ⟨r.val + dy.val - 5, by omega⟩ := Fin.ext (by
      show 3 + dy.val + r.val - 8 = r.val + dy.val - 5
      omega)
    show entry e ((4 * (cls (dst dx.val) (dst dy.val) % 21) + k.val) / 4) ⟨(4 * (cls (dst dx.val) (dst dy.val) % 21) + k.val) % 4, _⟩
      (ix2 ⟨3 + dy.val + r.val - 8, _⟩ (from_ l dx)) = _
    rw [h1, h2, h3]
  · rw [dif_neg h, dif_neg (by show ¬(8 ≤ 3 + dy.val + r.val ∧ 3 + dy.val + r.val < 40); omega)]

/-- What a window position adds. -/
def term (T : FVec Ideal S84x48x128 .f32) (pos : IVec S32x128 1) (c : FVec Ideal S32x128 .f32) (dx dy : Fin 11) (i : S32x128.Idx) : EReal :=
  select pos (readV (copiesV T dx) dy 0) (readV (copiesV T dx) dy 2) i
    + select pos (readV (copiesV T dx) dy 1) (readV (copiesV T dx) dy 3) i * c i

theorem list_sum (f : Fin 11 → EReal) : (([0, 1, 2, 3, 4, 5, 6, 7, 8, 9, 10] : List (Fin 11)).map f).sum = ∑ i, f i := by
  rw [Fin.sum_univ_def]
  rfl

theorem sum_at (T : FVec Ideal S84x48x128 .f32) (pos : IVec S32x128 1) (c : FVec Ideal S32x128 .f32) (i : S32x128.Idx) :
    sumV T pos c i = ∑ dx : Fin 11, ∑ dy : Fin 11, term T pos c dx dy i := by
  have h1 : ∀ (acc : FVec Ideal S32x128 .f32) (dx : Fin 11) (i : S32x128.Idx), colV T pos c acc dx i = acc i + ∑ dy : Fin 11, term T pos c dx dy i := fun acc dx i => by
    unfold colV
    refine (foldl_add (M := EReal) _ (fun dy i => term T pos c dx dy i) (fun a d i => by rfl) _ _ _).trans ?_
    rw [list_sum]
  unfold sumV
  refine (foldl_add (M := EReal) _ (fun dx i => ∑ dy : Fin 11, term T pos c dx dy i) (fun a d i => h1 a d i) _ _ _).trans ?_
  rw [list_sum]
  show Ideal.ofBits .f32 0x00000000#32 + _ = _
  rw [word_zero, EReal.coe_zero, zero_add]

/-- The pixels in each other's window. -/
def near (p q : Px) : Prop := (q.1.val ≤ p.1.val + 5 ∧ p.1.val ≤ q.1.val + 5) ∧ (q.2.val ≤ p.2.val + 5 ∧ p.2.val ≤ q.2.val + 5)

instance (p q : Px) : Decidable (near p q) := by unfold near; infer_instance

/-- The accumulation at a pixel is a sum over the pixels of its window. -/
theorem sum_lane (pos : IVec S32x128 1) (c : FVec Ideal S32x128 .f32) (r : Fin 32) (b : Fin 2) (w : Fin 32) (δ : ℝ)
    (hδ : (pos (ix2 r (lane b w)) = 1#1 ∧ δ = 1) ∨ (pos (ix2 r (lane b w)) = 0#1 ∧ δ = -1)) (V : Px → ℝ)
    (hQ : ∀ k r l, ¬ inside l → tabQ e k (ix2 r l) = 0)
    (hV : ∀ p : Px, near p (r, w) → ∀ k d : Ideal .f32, k = ((δ * kern tapR (r, w) p : ℝ) : EReal) →
      d = ((2 * (δ * kern tapR (r, w) p) : ℝ) : EReal) →
      tabQ e k (ix2 p.1 (lane b p.2)) * tabN e k (ix2 p.1 (lane b p.2)) + d * tabQ e k (ix2 p.1 (lane b p.2)) * c (ix2 r (lane b w)) = (V p : EReal)) :
    sumV (tabV e) pos c (ix2 r (lane b w)) = ((∑ p : Px, if near p (r, w) then V p else 0 : ℝ) : EReal) := by
  have ht : ∀ dx dy : Fin 11, term (tabV e) pos c dx dy (ix2 r (lane b w))
      = ((if hw : 5 ≤ w.val + dx.val ∧ w.val + dx.val < 37 then
          (if hr : 5 ≤ r.val + dy.val ∧ r.val + dy.val < 37 then V (⟨r.val + dy.val - 5, by omega⟩, ⟨w.val + dx.val - 5, by omega⟩) else 0) else 0 : ℝ) : EReal) := fun dx dy => by
    unfold term
    have hl := from_lane b w dx
    have hs : ∀ x y : FVec Ideal S32x128 .f32, select pos x y (ix2 r (lane b w)) = if δ = 1 then x (ix2 r (lane b w)) else y (ix2 r (lane b w)) := fun x y => by
      show (if pos (ix2 r (lane b w)) = 1#1 then _ else _) = _
      rcases hδ with ⟨h1, h2⟩ | ⟨h1, h2⟩
      · rw [if_pos h1, if_pos h2]
      · rw [h1, h2, if_neg (by decide), if_neg (by norm_num)]
    rw [hs, hs]
    simp only [read_tab]
    by_cases hr : 5 ≤ r.val + dy.val ∧ r.val + dy.val < 37
    · simp only [dif_pos hr]
      by_cases hw : 5 ≤ w.val + dx.val ∧ w.val + dx.val < 37
      · rw [dif_pos hw] at hl
        simp only [dif_pos hw, hl]
        have hr5 : dst (r.val + dy.val - 5 + 5 - r.val) = dst dy.val := by congr 1; omega
        have hw5 : dst (w.val + dx.val - 5 + 5 - w.val) = dst dx.val := by congr 1; omega
        have hk : kern tapR (r, w) (⟨r.val + dy.val - 5, by omega⟩, ⟨w.val + dx.val - 5, by omega⟩) = tapR (dst dx.val) * tapR (dst dy.val) := by
          unfold kern band
          rw [if_pos (by show r.val ≤ r.val + dy.val - 5 + 5 ∧ r.val + dy.val - 5 ≤ r.val + 5; omega),
            if_pos (by show w.val ≤ w.val + dx.val - 5 + 5 ∧ w.val + dx.val - 5 ≤ w.val + 5; omega)]
          show tapR (dst (r.val + dy.val - 5 + 5 - r.val)) * tapR (dst (w.val + dx.val - 5 + 5 - w.val)) = _
          rw [hr5, hw5, mul_comm]
        have hn : near (⟨r.val + dy.val - 5, by omega⟩, ⟨w.val + dx.val - 5, by omega⟩) (r, w) := by
          show (r.val ≤ r.val + dy.val - 5 + 5 ∧ r.val + dy.val - 5 ≤ r.val + 5) ∧ (w.val ≤ w.val + dx.val - 5 + 5 ∧ w.val + dx.val - 5 ≤ w.val + 5)
          omega
        have hrow := row_eq (dst dx.val) (dst dy.val) (dst_le dx) (dst_le dy)
        rcases hδ with ⟨_, h2⟩ | ⟨_, h2⟩
        · rw [if_pos h2, if_pos h2]
          exact hV _ hn _ _ (hrow.k.trans (by rw [hk, h2, one_mul])) (hrow.d.trans (by rw [hk, h2, one_mul]))
        · rw [if_neg (by rw [h2]; norm_num), if_neg (by rw [h2]; norm_num)]
          exact hV _ hn _ _ (hrow.m.trans (by rw [hk, h2, neg_one_mul])) (hrow.n.trans (by rw [hk, h2, neg_one_mul, mul_neg]))
      · rw [dif_neg hw] at hl
        simp only [dif_neg hw]
        have h0 : ∀ k (a : Fin 32), entry e (cls (dst dx.val) (dst dy.val) % 21) k (ix2 a (from_ (lane b w) dx)) = 0 := fun k a => by
          match k with
          | 0 => exact mulf_zero_left (hQ _ _ _ hl)
          | 1 => exact mulf_zero_right (hQ _ _ _ hl)
          | 2 => exact mulf_zero_left (hQ _ _ _ hl)
          | 3 => exact mulf_zero_right (hQ _ _ _ hl)
        simp only [h0, ite_self, zero_mul, add_zero, EReal.coe_zero]
    · simp only [dif_neg hr, ite_self, zero_mul, add_zero, dite_eq_ite, EReal.coe_zero]
  rw [sum_at]
  simp only [ht, coe_sum]
  congr 1
  have h2 : ∀ dx : Fin 11, (∑ dy : Fin 11, (if hw : 5 ≤ w.val + dx.val ∧ w.val + dx.val < 37 then
          (if hr : 5 ≤ r.val + dy.val ∧ r.val + dy.val < 37 then V (⟨r.val + dy.val - 5, by omega⟩, ⟨w.val + dx.val - 5, by omega⟩) else 0) else 0 : ℝ))
      = if hw : 5 ≤ w.val + dx.val ∧ w.val + dx.val < 37 then
          (∑ j : Fin 32, if h : r.val ≤ j.val + 5 ∧ j.val ≤ r.val + 5 then V (j, ⟨w.val + dx.val - 5, by omega⟩) else 0) else 0 := fun dx => by
    by_cases hw : 5 ≤ w.val + dx.val ∧ w.val + dx.val < 37
    · simp only [dif_pos hw]
      exact window_sum r fun _ j => V (j, ⟨w.val + dx.val - 5, by omega⟩)
    · simp only [dif_neg hw, Finset.sum_const_zero]
  simp only [h2]
  rw [window_sum w fun _ k => ∑ j : Fin 32, if h : r.val ≤ j.val + 5 ∧ j.val ≤ r.val + 5 then V (j, k) else 0,
    Fintype.sum_prod_type, Finset.sum_comm]
  refine sum_congr rfl fun k _ => ?_
  by_cases hk : w.val ≤ k.val + 5 ∧ k.val ≤ w.val + 5
  · rw [dif_pos hk]
    refine sum_congr rfl fun j _ => ?_
    by_cases hj : r.val ≤ j.val + 5 ∧ j.val ≤ r.val + 5
    · rw [dif_pos hj, if_pos ⟨hj, hk⟩]
    · rw [dif_neg hj, if_neg fun h => hj h.1]
  · rw [dif_neg hk]
    exact (Finset.sum_eq_zero fun j _ => if_neg fun h => hk h.2).symm

end Cert.Proof
-- ==== Proof.Bounds.lean ====
module

public import proofs.«01_k».proof.Proof.Table

/-!
# The low-pass kernel, and the bounds that keep the quotients finite
-/

@[expose] public section

noncomputable section

namespace Cert.Proof

open Finset

theorem band_symm (g : ℕ → ℝ) (i j : Fin 32) : band g i j = band g j i := by
  unfold band
  by_cases h : i.val ≤ j.val + 5 ∧ j.val ≤ i.val + 5
  · rw [if_pos h, if_pos ⟨h.2, h.1⟩]
    refine congrArg g ?_
    unfold dst
    omega
  · rw [if_neg h, if_neg fun h' => h ⟨h'.2, h'.1⟩]

theorem kern_symm (g : ℕ → ℝ) (p q : Px) : kern g p q = kern g q p := by
  unfold kern
  rw [band_symm g p.1, band_symm g p.2]

theorem band_nonneg (i j : Fin 32) : 0 ≤ band tapR i j := by
  unfold band
  split
  · exact tapR_nonneg _
  · exact le_rfl

theorem kern_nonneg (p q : Px) : 0 ≤ kern tapR p q := mul_nonneg (band_nonneg _ _) (band_nonneg _ _)

theorem kern_far (g : ℕ → ℝ) (p q : Px) (h : ¬ near p q) : kern g p q = 0 := by
  rw [kern_symm]
  unfold kern band
  by_cases h1 : q.1.val ≤ p.1.val + 5 ∧ p.1.val ≤ q.1.val + 5
  · rw [if_neg (c := q.2.val ≤ p.2.val + 5 ∧ p.2.val ≤ q.2.val + 5) fun h2 => h ⟨h1, h2⟩, mul_zero]
  · rw [if_neg h1, zero_mul]

theorem kern_sq (g : ℕ → ℝ) (p q : Px) : kern (fun q => g q * g q) p q = kern g p q * kern g p q := by
  unfold kern band
  split <;> split <;> ring

theorem kern_one (p q : Px) : kern (fun _ => 1) q p = if near p q then 1 else 0 := by
  by_cases h : near p q
  · rw [if_pos h]
    unfold kern band
    rw [if_pos h.1, if_pos h.2, one_mul]
  · rw [if_neg h, kern_symm]
    exact kern_far _ p q h

theorem band_sum (i : Fin 32) : ∑ j : Fin 32, band tapR i j ≤ 1 + 1 / 100000000 := by
  have h := window_sum i fun d _ => tapR (dst d.val)
  have e : ∑ j : Fin 32, band tapR i j = ∑ j : Fin 32, if h : i.val ≤ j.val + 5 ∧ j.val ≤ i.val + 5 then tapR (dst (j.val + 5 - i.val)) else 0 :=
    sum_congr rfl fun j _ => by unfold band; split <;> rfl
  rw [e, ← h]
  calc _ ≤ ∑ d : Fin 11, tapR (dst d.val) := sum_le_sum fun d _ => by
        split
        · exact le_rfl
        · exact tapR_nonneg _
    _ ≤ _ := by
        simp only [Fin.sum_univ_succ, Fin.sum_univ_zero, Fin.val_zero, Fin.val_succ, Nat.reduceAdd, dst, Nat.reduceSub]
        norm_num [tapR]

theorem kern_sum (p : Px) : ∑ q, kern tapR p q ≤ 1 + 21 / 1000000000 := by
  have e : ∑ q, kern tapR p q = (∑ j, band tapR p.1 j) * ∑ k, band tapR p.2 k := by
    unfold kern
    rw [Fintype.sum_prod_type, sum_mul_sum]
  rw [e]
  calc _ ≤ (1 + 1 / 100000000 : ℝ) * (1 + 1 / 100000000) :=
        mul_le_mul (band_sum _) (band_sum _) (sum_nonneg fun _ _ => band_nonneg _ _) (by norm_num)
    _ ≤ _ := by norm_num

/-- The second denominator is positive for every halftone. -/
theorem den_pos (f c : Px → ℝ) (hf : ∀ p, f p = 0 ∨ f p = 1) (hc : ∀ p, |c p| ≤ 128) (p : Px) :
    0 < Reward.var (kern tapR) f p + Reward.var (kern tapR) c p + par.c2 := by
  have h1 := Reward.var_ge (kern tapR) f kern_nonneg (1 + 21 / 1000000000) 1 (by norm_num) kern_sum
    (fun q => by rcases hf q with h | h <;> rw [h] <;> norm_num) (by norm_num) p
  have h2 := Reward.var_ge (kern tapR) c kern_nonneg (1 + 21 / 1000000000) 16384 (by norm_num) kern_sum
    (fun q => by have := abs_le.1 (hc q); nlinarith) (by norm_num) p
  have h3 : par.c2 = 7730941 / 8589934592 := rfl
  rw [h3]
  norm_num at h1 h2 ⊢
  linarith

theorem c1_pos : 0 < par.c1 := by norm_num [par]
theorem c2_pos : 0 < par.c2 := by norm_num [par]
theorem eps_pos : 0 < par.eps := by norm_num [par]

theorem d1_pos (a b : ℝ) : 0 < a * a + b * b + par.c1 := by
  have := c1_pos
  nlinarith [mul_self_nonneg a, mul_self_nonneg b]

theorem arg_pos (a b : ℝ) : 0 < max (a * b) 0 + par.eps := by
  have := eps_pos
  have := le_max_right (a * b) 0
  linarith

theorem d3_pos (a b : ℝ) : 0 < Reward.sq par a b + par.c2 + par.eps := by
  have := eps_pos
  have := c2_pos
  have := Real.sqrt_nonneg (max (a * b) 0 + par.eps)
  unfold Reward.sq
  linarith

end Cert.Proof
-- ==== Proof.Similar.lean ====
module

public import proofs.«01_k».proof.Proof.Bounds

/-!
# The similarity at an entry
-/

@[expose] public section

noncomputable section

namespace Cert.Proof

open Idealize.ShloMosaic Cert.KernelIdeal Finset

variable {i : S32x128.Idx} {mb mc hh sc : ℝ}

/-- The unflipped similarity at an entry. -/
theorem ssim_at {muB muC hHC sigC : FVec Ideal S32x128 .f32} (h1 : muB i = (mb : EReal)) (h2 : muC i = (mc : EReal))
    (h3 : hHC i = (hh : EReal)) (h4 : sigC i = (sc : EReal)) (hd : 0 < (mb - mb * mb) + sc + par.c2) :
    ssimOf muB muC hHC sigC i = ((Reward.ssim par mb mc (mb - mb * mb) sc (hh - mb * mc) : ℝ) : EReal) := by
  have sh := subf_at h1 (mulf_at h1 h1)
  have s := psq_at (addf_at (maximumf_at (mulf_at sh h4) (bc_at word_zero)) (bc_at word_eps)) (arg_pos _ _)
  have l := divf_at (addf_at (mulf_at (mulf_at (bc_at word_two) h1) h2) (bc_at word_c1))
    (addf_at (addf_at (mulf_at h1 h1) (mulf_at h2 h2)) (bc_at word_c1)) (d1_pos mb mc).ne'
  have c := divf_at (addf_at (mulf_at (bc_at word_two) s) (bc_at word_c2)) (addf_at (addf_at sh h4) (bc_at word_c2)) hd.ne'
  have t := divf_at (addf_at (mulf_at (bc_at word_two) (subf_at h3 (mulf_at h1 h2))) (bc_at word_c2))
    (addf_at (addf_at s (bc_at word_c2)) (bc_at word_eps)) (d3_pos (mb - mb * mb) sc).ne'
  exact mulf_at (mulf_at l c) t

/-- The flipped similarity at an entry, from the table's two pieces. -/
theorem tab_entry {e : Env Ideal} {w κ cv : ℝ} {k d : Ideal .f32} (h1 : e.muB i = (mb : EReal)) (h2 : e.muC i = (mc : EReal))
    (h3 : e.hHC i = (hh : EReal)) (h4 : e.sigC i = (sc : EReal)) (h5 : e.cc i = (w : EReal))
    (h6 : e.mc i = ((mc * mc + par.c1 : ℝ) : EReal)) (h7 : e.sc i = ((sc + par.c2 : ℝ) : EReal))
    (hk : k = (κ : EReal)) (hd : d = ((2 * κ : ℝ) : EReal))
    (hp : 0 < ((mb + κ) - (mb + κ) * (mb + κ)) + sc + par.c2) :
    tabQ e k i * tabN e k i + d * tabQ e k i * (cv : EReal)
      = ((w * Reward.ssim par (mb + κ) mc ((mb + κ) - (mb + κ) * (mb + κ)) sc (hh + κ * cv - (mb + κ) * mc) : ℝ) : EReal) := by
  have mu := addf_at h1 (broadcast_at (s := S32x128) (i := i) hk)
  have mu2 := mulf_at mu mu
  have sh := subf_at mu mu2
  have mm := mulf_at mu h2
  have s := psq_at (addf_at (maximumf_at (mulf_at sh h4) (bc_at word_zero)) (bc_at word_eps)) (arg_pos _ _)
  have n1 := addf_at (addf_at mm mm) (bc_at word_c1)
  have d1 := addf_at mu2 h6
  have d2 := addf_at sh h7
  have n2 := addf_at (addf_at s s) (bc_at word_c2)
  have d3 := addf_at (addf_at s (bc_at word_c2)) (bc_at word_eps)
  have e1 := d1_pos (mb + κ) mc
  have e3 := d3_pos ((mb + κ) - (mb + κ) * (mb + κ)) sc
  have hne : ((mb + κ) * (mb + κ) + (mc * mc + par.c1)) * ((mb + κ) - (mb + κ) * (mb + κ) + (sc + par.c2))
      * (Real.sqrt (max (((mb + κ) - (mb + κ) * (mb + κ)) * sc) 0 + par.eps) + par.c2 + par.eps) ≠ 0 := by
    refine mul_ne_zero (mul_ne_zero ?_ ?_) e3.ne'
    · rw [← add_assoc]; exact e1.ne'
    · rw [← add_assoc]; exact hp.ne'
  have q := mulf_at h5 (divf_at (mulf_at n1 n2) (mulf_at (mulf_at d1 d2) d3) hne)
  have h := subf_at h3 mm
  have n := addf_at (addf_at h h) (bc_at word_c2)
  have hq : tabQ e k i = _ := q
  have hn : tabN e k i = _ := n
  rw [hq, hn, hd, ← EReal.coe_mul, ← EReal.coe_mul, ← EReal.coe_mul, ← EReal.coe_add]
  congr 1
  unfold Reward.ssim Reward.sq
  generalize Real.sqrt (max (((mb + κ) - (mb + κ) * (mb + κ)) * sc) 0 + par.eps) = s
  rw [← add_assoc ((mb + κ) * (mb + κ)), ← add_assoc ((mb + κ) - (mb + κ) * (mb + κ))]
  simp only [div_eq_mul_inv, mul_inv]
  ring

end Cert.Proof
-- ==== Proof.KernelValue.lean ====
module

public import proofs.«01_k».proof.Proof.Similar

/-!
# The kernel's result on real pictures

For packed real pictures the kernel's result is the mean over the pixels of the reward plus the
weighted gain of the flip.
-/

@[expose] public section

noncomputable section

namespace Cert.Proof

open Idealize.ShloMosaic Cert.KernelIdeal Finset

/-- A packed block holds real images and nothing around them. -/
structure Holds (X : FVec Ideal S32x128 .f32) (f : Fin 2 → Px → ℝ) : Prop where
  on : ∀ r b w, X (ix2 r (lane b w)) = (f b (r, w) : EReal)
  off : ∀ r l, ¬ inside l → X (ix2 r l) = 0

theorem Holds.mul_left {X Y : FVec Ideal S32x128 .f32} {f g : Fin 2 → Px → ℝ} (hX : Holds X f)
    (hY : ∀ r b w, Y (ix2 r (lane b w)) = (g b (r, w) : EReal)) : Holds (mulf X Y) fun b p => f b p * g b p :=
  ⟨fun r b w => mulf_at (hX.on r b w) (hY r b w), fun r l h => mulf_zero_left (hX.off r l h)⟩

theorem Holds.congr {X : FVec Ideal S32x128 .f32} {f g : Fin 2 → Px → ℝ} (hX : Holds X f) (h : ∀ b p, f b p = g b p) : Holds X g :=
  ⟨fun r b w => (hX.on r b w).trans (by rw [h]), hX.off⟩

theorem Holds.conv {X : FVec Ideal S32x128 .f32} {f : Fin 2 → Px → ℝ} (hX : Holds X f) {g : ℕ → Ideal .f32} {γ : ℕ → ℝ}
    (hg : ∀ q, g q = (γ q : EReal)) (r : Fin 32) (b : Fin 2) (w : Fin 32) :
    convV g X (ix2 r (lane b w)) = ((Reward.low (kern γ) (f b) (r, w) : ℝ) : EReal) :=
  conv_lane hg hX.on hX.off r b w

theorem holds_pack {x y : FVec Ideal S32x32 .f32} {f : Fin 2 → Px → ℝ} (hx : ∀ r w, x (ix2 r w) = (f 0 (r, w) : EReal))
    (hy : ∀ r w, y (ix2 r w) = (f 1 (r, w) : EReal)) : Holds (packV x y) f :=
  ⟨fun r b w => by
    rw [pack_lane]
    match b with
    | 0 => exact hx r w
    | 1 => exact hy r w, fun r l h => (pack_outside x y r l h).trans Ideal.ofBits_zero_f32⟩

theorem holds_mask : Holds (maskV (F := Ideal)) fun _ _ => 1 := holds_pack (fun _ _ => word_one) (fun _ _ => word_one)

theorem lane_injective : Function.Injective fun z : Fin 2 × Fin 32 => lane z.1 z.2 := by
  rintro ⟨b, w⟩ ⟨b', w'⟩ h
  have h : 8 + 64 * b.val + w.val = 8 + 64 * b'.val + w'.val := congrArg Fin.val h
  refine Prod.ext (Fin.ext ?_) (Fin.ext ?_)
  · show b.val = b'.val
    omega
  · show w.val = w'.val
    omega

/-- A sum over a packed block is a sum over the images. -/
theorem sum_lanes (t : Fin 32 → Fin 128 → EReal) (g : Fin 2 → Px → ℝ) (h : ∀ r b w, t r (lane b w) = (g b (r, w) : EReal))
    (h0 : ∀ r l, ¬ inside l → t r l = 0) : ∑ l, ∑ r, t r l = ((∑ b, ∑ p, g b p : ℝ) : EReal) := by
  have e := Fintype.sum_of_injective (fun z : Fin 2 × Fin 32 => lane z.1 z.2) lane_injective
    (fun z => ((∑ r, g z.1 (r, z.2) : ℝ) : EReal)) (fun l => ∑ r, t r l)
    (fun l hl => Finset.sum_eq_zero fun r _ => h0 r l fun hi => hl (by obtain ⟨b, w, rfl⟩ := exists_lane l hi; exact ⟨(b, w), rfl⟩))
    (fun z => by rw [← coe_sum]; exact sum_congr rfl fun r _ => (h r z.1 z.2).symm)
  rw [← e, coe_sum, Fintype.sum_prod_type]
  congr 1
  refine sum_congr rfl fun b _ => ?_
  rw [Fintype.sum_prod_type, Finset.sum_comm]

theorem final_at (base w mse acc box : FVec Ideal S32x128 .f32) (i : S1x1.Idx) :
    finalOf base w mse acc box i
      = (∑ l : Fin 128, ∑ r : Fin 32, addf base (mulf w (mulf (subf (mulf (bc S32x128 0x3D75C28F#32) (subf acc box)) mse) (bc S32x128 0x3A800000#32))) (ix2 r l))
        * Ideal.ofBits .f32 0xBA000000#32 := by
  unfold finalOf
  generalize addf base _ = t
  pointwise

/-- The value the kernel's result has. -/
def loss (c h p : Fin 2 → Px → ℝ) : ℝ :=
  (∑ b, ∑ q, (Reward.base par (kern tapR) (c b) (h b) q
    + (h b q + Reward.dir (h b) q * p b q) * Reward.gain par (kern tapR) (fun q p => near p q) 1024 (c b) (h b) q)) * -(1 / 2048)

section

variable {H C Q : FVec Ideal S32x128 .f32} {h c p : Fin 2 → Px → ℝ} (hH : Holds H h) (hC : Holds C c) (hQ : Holds Q p)
  (hb : ∀ b q, h b q = 0 ∨ h b q = 1) (hc : ∀ b q, |c b q| ≤ 128)

include hH hC hb hc

omit hb hc in
theorem muB_at (r : Fin 32) (b : Fin 2) (w : Fin 32) :
    (envV H C).muB (ix2 r (lane b w)) = ((Reward.low (kern tapR) (h b) (r, w) : ℝ) : EReal) := hH.conv tap_eq r b w

omit hH hb hc in
theorem muC_at (r : Fin 32) (b : Fin 2) (w : Fin 32) :
    (envV H C).muC (ix2 r (lane b w)) = ((Reward.low (kern tapR) (c b) (r, w) : ℝ) : EReal) := hC.conv tap_eq r b w

omit hb hc in
theorem hHC_at (r : Fin 32) (b : Fin 2) (w : Fin 32) :
    (envV H C).hHC (ix2 r (lane b w)) = ((Reward.low (kern tapR) (fun q => h b q * c b q) (r, w) : ℝ) : EReal) :=
  (hH.mul_left hC.on).conv tap_eq r b w

omit hH hb hc in
theorem sigC_at (r : Fin 32) (b : Fin 2) (w : Fin 32) :
    (envV H C).sigC (ix2 r (lane b w)) = ((Reward.var (kern tapR) (c b) (r, w) : ℝ) : EReal) :=
  subf_at ((hC.mul_left hC.on).conv tap_eq r b w) (mulf_at (muC_at (H := H) hC r b w) (muC_at (H := H) hC r b w))

omit hH hb hc in
theorem cc_holds : Holds (envV H C).cc fun b q => Reward.weight par (kern tapR) (c b) q := by
  have hd : ∀ r b w, subf C (convV tap C) (ix2 r (lane b w)) = ((c b (r, w) - Reward.low (kern tapR) (c b) (r, w) : ℝ) : EReal) := fun r b w =>
    subf_at (hC.on r b w) (muC_at (H := H) hC r b w)
  have hv : Holds (mulf maskV (mulf (subf C (convV tap C)) (subf C (convV tap C))))
      fun b q => (c b q - Reward.low (kern tapR) (c b) q) * (c b q - Reward.low (kern tapR) (c b) q) :=
    (holds_mask.mul_left (g := fun b q => (c b q - Reward.low (kern tapR) (c b) q) * (c b q - Reward.low (kern tapR) (c b) q))
      fun r b w => mulf_at (hd r b w) (hd r b w)).congr fun b q => one_mul _
  refine (holds_mask.mul_left (g := fun b q => Reward.weight par (kern tapR) (c b) q) fun r b w => ?_).congr fun b q => one_mul _
  refine minimumf_at (bc_at word_one) (maximumf_at (bc_at word_zero) (mulf_at (bc_at word_two)
    (psq_at (addf_at (hv.conv tap_eq r b w) (bc_at word_eps)) ?_)))
  have := Reward.low_sq_nonneg (kern tapR) kern_nonneg (fun q => c b q - Reward.low (kern tapR) (c b) q) (r, w)
  have := eps_pos
  linarith

theorem sim_at (r : Fin 32) (b : Fin 2) (w : Fin 32) :
    ssimOf (envV H C).muB (envV H C).muC (envV H C).hHC (envV H C).sigC (ix2 r (lane b w))
      = ((Reward.sim par (kern tapR) (c b) (h b) (r, w) : ℝ) : EReal) := by
  have hd := den_pos (h b) (c b) (hb b) (hc b) (r, w)
  unfold Reward.sim
  rw [Reward.var_bit _ _ (hb b)] at hd ⊢
  exact ssim_at (muB_at hH hC r b w) (muC_at (H := H) hC r b w) (hHC_at hH hC r b w) (sigC_at (H := H) hC r b w) hd

omit hC hH hc in
theorem dir_cases (b : Fin 2) (q : Px) : (h b q = 0 ∧ Reward.dir (h b) q = 1) ∨ (h b q = 1 ∧ Reward.dir (h b) q = -1) := by
  unfold Reward.dir
  rcases hb b q with e | e
  · left; rw [e]; norm_num
  · right; rw [e]; norm_num

omit hC hb hc in
theorem delta_at (r : Fin 32) (b : Fin 2) (w : Fin 32) : deltaOf H (ix2 r (lane b w)) = ((Reward.dir (h b) (r, w) : ℝ) : EReal) :=
  subf_at (bc_at word_one) (mulf_at (bc_at word_two) (hH.on r b w))

theorem acc_at (r : Fin 32) (b : Fin 2) (w : Fin 32) :
    sumV (tabV (envV H C)) (cmpf .ogt (deltaOf H) (bc S32x128 0x00000000#32)) C (ix2 r (lane b w))
      = ((∑ q : Px, if near q (r, w) then Reward.weight par (kern tapR) (c b) q
          * Reward.simFlip par (kern tapR) (c b) (h b) (r, w) q else 0 : ℝ) : EReal) := by
  have hpos : cmpf .ogt (deltaOf H) (bc S32x128 0x00000000#32) (ix2 r (lane b w))
      = BitVec.ofBool (decide ((0 : ℝ) < Reward.dir (h b) (r, w))) := by
    show Ideal.cmp .ogt (deltaOf H (ix2 r (lane b w))) (Ideal.ofBits .f32 0x00000000#32) = _
    rw [delta_at hH r b w, word_zero]
    show BitVec.ofBool (decide _) = _
    simp only [EReal.coe_lt_coe_iff]
  refine sum_lane (envV H C) _ C r b w (Reward.dir (h b) (r, w)) ?_
    (fun q => Reward.weight par (kern tapR) (c b) q * Reward.simFlip par (kern tapR) (c b) (h b) (r, w) q)
    (fun k r l hl => mulf_zero_left ((cc_holds hC).off r l hl)) fun q _ k d hk hd => ?_
  · rw [hpos]
    rcases dir_cases hb b (r, w) with ⟨_, e⟩ | ⟨_, e⟩
    · left; simp [e]
    · right; rw [e]; exact ⟨by norm_num; rfl, rfl⟩
  · rw [hC.on]
    have hden := den_pos (Reward.flip (h b) (r, w)) (c b) (Reward.flip_bit (h b) (hb b) (r, w)) (hc b) q
    rw [Reward.var_bit _ _ (Reward.flip_bit (h b) (hb b) (r, w)), Reward.low_flip, kern_symm tapR q] at hden
    refine (tab_entry (muB_at hH hC q.1 b q.2) (muC_at (H := H) hC q.1 b q.2) (hHC_at hH hC q.1 b q.2) (sigC_at (H := H) hC q.1 b q.2)
      ((cc_holds hC).on q.1 b q.2) (addf_at (mulf_at (muC_at (H := H) hC q.1 b q.2) (muC_at (H := H) hC q.1 b q.2)) (bc_at word_c1))
      (addf_at (sigC_at (H := H) hC q.1 b q.2) (bc_at word_c2)) hk hd hden).trans ?_
    unfold Reward.simFlip
    rw [kern_symm tapR q]

theorem box_at (r : Fin 32) (b : Fin 2) (w : Fin 32) :
    convV tapOne (mulf (envV H C).cc (ssimOf (envV H C).muB (envV H C).muC (envV H C).hHC (envV H C).sigC)) (ix2 r (lane b w))
      = ((∑ q : Px, if near q (r, w) then Reward.weight par (kern tapR) (c b) q
          * Reward.sim par (kern tapR) (c b) (h b) q else 0 : ℝ) : EReal) := by
  refine (((cc_holds (H := H) hC).mul_left (g := fun b q => Reward.sim par (kern tapR) (c b) (h b) q) (sim_at hH hC hb hc)).conv tapOne_eq r b w).trans ?_
  congr 1
  refine sum_congr rfl fun q _ => ?_
  rw [kern_one]
  split
  · rw [mul_one]
  · rw [mul_zero]

omit hb hc in
theorem mse_at (r : Fin 32) (b : Fin 2) (w : Fin 32) :
    addf (mulf (deltaOf H) (mulf (bc S32x128 0x40000000#32) (convV tap (mulf maskV (subf (envV H C).muB (envV H C).muC))))) (convV tapSq maskV)
        (ix2 r (lane b w))
      = ((Reward.dir (h b) (r, w) * (2 * Reward.low (kern tapR) (fun q => Reward.low (kern tapR) (h b) q - Reward.low (kern tapR) (c b) q) (r, w))
          + ∑ q, kern tapR (r, w) q * kern tapR (r, w) q : ℝ) : EReal) := by
  have hd : Holds (mulf maskV (subf (envV H C).muB (envV H C).muC))
      fun b q => Reward.low (kern tapR) (h b) q - Reward.low (kern tapR) (c b) q :=
    (holds_mask.mul_left (g := fun b q => Reward.low (kern tapR) (h b) q - Reward.low (kern tapR) (c b) q)
      fun r b w => subf_at (muB_at hH hC r b w) (muC_at (H := H) hC r b w)).congr fun b q => one_mul _
  refine (addf_at (mulf_at (delta_at hH r b w) (mulf_at (bc_at word_two) (hd.conv tap_eq r b w)))
    (holds_mask.conv tapSq_eq r b w)).trans ?_
  congr 2
  refine sum_congr rfl fun q _ => ?_
  rw [one_mul, kern_sq]

include hQ

/-- The kernel's result. -/
theorem out_eq (i : S1x1.Idx) : outV H C Q i = ((loss c h p : ℝ) : EReal) := by
  show finalOf _ _ _ _ _ i = _
  rw [final_at, word_inv_2048]
  have hs := sum_lanes
    (fun r l => addf (baseOf maskV (envV H C).cc (ssimOf (envV H C).muB (envV H C).muC (envV H C).hHC (envV H C).sigC) (subf (envV H C).muB (envV H C).muC))
      (mulf (addf H (mulf (deltaOf H) Q))
        (mulf (subf (mulf (bc S32x128 0x3D75C28F#32)
          (subf (sumV (tabV (envV H C)) (cmpf .ogt (deltaOf H) (bc S32x128 0x00000000#32)) C)
            (convV tapOne (mulf (envV H C).cc (ssimOf (envV H C).muB (envV H C).muC (envV H C).hHC (envV H C).sigC)))))
          (addf (mulf (deltaOf H) (mulf (bc S32x128 0x40000000#32) (convV tap (mulf maskV (subf (envV H C).muB (envV H C).muC))))) (convV tapSq maskV)))
          (bc S32x128 0x3A800000#32))) (ix2 r l))
    (fun b q => Reward.base par (kern tapR) (c b) (h b) q
      + (h b q + Reward.dir (h b) q * p b q) * Reward.gain par (kern tapR) (fun q p => near p q) 1024 (c b) (h b) q)
    (fun r b w => ?_) (fun r l hl => ?_)
  · refine (congrArg (· * _) hs).trans ?_
    rw [← EReal.coe_mul]
    rfl
  · have hcc := (cc_holds (H := H) hC).on r b w
    have hsim := sim_at hH hC hb hc r b w
    have hdf := subf_at (muB_at hH hC r b w) (muC_at (H := H) hC r b w)
    have hbase := mulf_at (holds_mask.on r b w) (subf_at (mulf_at (bc_at word_ws)
      (addf_at (mulf_at hcc hsim) (subf_at (bc_at word_one) hcc))) (mulf_at hdf hdf))
    have hgain := mulf_at (subf_at (mulf_at (bc_at word_ws) (subf_at (acc_at hH hC hb hc r b w) (box_at hH hC hb hc r b w)))
      (mse_at hH hC r b w)) (bc_at word_inv_1024)
    refine (addf_at hbase (mulf_at (addf_at (hH.on r b w) (mulf_at (delta_at hH r b w) (hQ.on r b w))) hgain)).trans ?_
    congr 1
    unfold Reward.base Reward.gain
    rw [one_mul, mul_one_div]
  · have hz : addf H (mulf (deltaOf H) Q) (ix2 r l) = 0 := by
      show H (ix2 r l) + deltaOf H (ix2 r l) * Q (ix2 r l) = 0
      rw [hH.off r l hl, hQ.off r l hl, mul_zero, add_zero]
    have hb0 : baseOf maskV (envV H C).cc (ssimOf (envV H C).muB (envV H C).muC (envV H C).hHC (envV H C).sigC) (subf (envV H C).muB (envV H C).muC) (ix2 r l) = 0 :=
      mulf_zero_left (holds_mask.off r l hl)
    have e : ∀ X Y Z : FVec Ideal S32x128 .f32, X (ix2 r l) = 0 → Y (ix2 r l) = 0 → addf X (mulf Y Z) (ix2 r l) = 0 := fun X Y Z hx hy => by
      show X (ix2 r l) + Y (ix2 r l) * Z (ix2 r l) = 0
      rw [hx, hy, zero_mul, add_zero]
    exact e _ _ _ hb0 hz

end

end Cert.Proof
-- ==== Proof.ReferenceParts.lean ====
module

public import proofs.«01_k».proof.Proof.Gen.ReferenceIdeal.Run
public import proofs.«01_k».proof.Proof.KernelValue
public import Idealize.ShloMosaic.Lib.Pointwise

/-!
# The reference's arrays at an index

The one-pixel masks, the candidates, the band of taps, the low pass and the sums over an image.
-/

@[expose] public section

noncomputable section

namespace Cert.Proof.Ref

open Idealize.ShloMosaic Cert.ReferenceIdeal Cert.ReferenceIdeal.Value Finset Cert.ReferenceIdeal.Facts₀ Cert.ReferenceIdeal.Facts

/-- The pixel of a running number. -/
def cell (n : Fin 1024) : Px := (⟨n.val / 32, by omega⟩, ⟨n.val % 32, by omega⟩)

/-- The threshold of a pixel, as the reference's table has it. -/
def thrE (b : Fin 2) (q : Px) : EReal := Ideal.ofBits .f32 (lit0 (S2x1x32x32.rowMajor (ix4 b 0 q.1 q.2)))

open Classical in
/-- The halftone: one where the probability is above the threshold. -/
def bit (p : Fin 2 → Px → ℝ) (b : Fin 2) (q : Px) : ℝ := if thrE b q < (p b q : EReal) then 1 else 0

theorem bit_bit (p : Fin 2 → Px → ℝ) (b : Fin 2) (q : Px) : bit p b q = 0 ∨ bit p b q = 1 := by
  unfold bit
  split
  · exact .inr rfl
  · exact .inl rfl

variable (V : Valuation τ sig (Elt Ideal))

/-- The probabilities, the images. -/
abbrev prob : FVec Ideal S2x1x32x32 .f32 := V (Proc.devRef .tc main_arg0)
abbrev cont : FVec Ideal S2x1x32x32 .f32 := V (Proc.devRef .tc main_arg1)

theorem number_eq (n : Fin 1024) (k : Fin 1024) :
    IntOp.cmpi .eq (IntOp.addi (BitVec.ofNat 32 n.val) 0#32) (BitVec.ofNat 32 k.val) = BitVec.ofBool (decide (n = k)) := by
  show BitVec.ofBool (BitVec.ofNat 32 n.val + 0#32 == BitVec.ofNat 32 k.val) = _
  congr 1
  rw [BitVec.add_zero, Bool.eq_iff_iff, beq_iff_eq, decide_eq_true_iff]
  constructor
  · intro h
    have := congrArg BitVec.toNat h
    rw [BitVec.toNat_ofNat, BitVec.toNat_ofNat, Nat.mod_eq_of_lt (by omega), Nat.mod_eq_of_lt (by omega)] at this
    exact Fin.ext this
  · rintro rfl
    rfl

theorem one_at (n : Fin 1024) (i l : Fin 32) :
    (res_main_v8 V : FVec Ideal S1024x32x32 .f32) (ix3 n i l) = ((if (i, l) = cell n then 1 else 0 : ℝ) : EReal) := by
  unfold res_main_v8
  pointwise
  refine (congrArg (FloatOps.uitofp (F := Ideal) .f32) (number_eq n ⟨i.val * 32 + l.val, by omega⟩)).trans ?_
  have e : n = ⟨i.val * 32 + l.val, by omega⟩ ↔ (i, l) = cell n := by
    unfold cell
    rw [Fin.ext_iff, Prod.ext_iff, Fin.ext_iff, Fin.ext_iff]
    dsimp only
    omega
  simp only [e]
  show (((BitVec.ofBool _).toNat : ℝ) : EReal) = _
  by_cases h : (i, l) = cell n
  · simp [h]
  · simp [h]

theorem keep_at (p : Fin 2 → Px → ℝ) (hp : ∀ b r w, prob V (ix4 b 0 r w) = (p b (r, w) : EReal)) (b : Fin 2) (n : Fin 1024) (i l : Fin 32) :
    (res_main_v15 V : FVec Ideal S2x1024x32x32 .f32) (ix4 b n i l) = ((bit p b (i, l) * (1 - if (i, l) = cell n then 1 else 0) : ℝ) : EReal) := by
  have h1 := one_at V n i l
  unfold res_main_v15
  generalize res_main_v8 V = E at h1 ⊢
  pointwise
  rw [EReal.coe_mul, EReal.coe_sub]
  refine congrArg₂ (fun x y : EReal => x * y) ?_ (congrArg₂ (fun x y : EReal => x - y) EReal.coe_one.symm h1)
  show Scalar.select (Ideal.cmp .ogt (prob V (ix4 b 0 i l)) (thrE b (i, l))) (Ideal.ofBits .f32 0x3F800000#32) (Ideal.ofBits .f32 0x00000000#32) = _
  rw [hp, word_one, word_zero]
  unfold bit
  show Scalar.select (BitVec.ofBool (decide (thrE b (i, l) < (p b (i, l) : EReal)))) _ _ = _
  by_cases h : thrE b (i, l) < (p b (i, l) : EReal)
  · simp [h, Scalar.select]
  · simp [h, Scalar.select]

theorem cand_at (p : Fin 2 → Px → ℝ) (hp : ∀ b r w, prob V (ix4 b 0 r w) = (p b (r, w) : EReal)) (b a : Fin 2) (n : Fin 1024) (i l : Fin 32) :
    (res_main_v21 V : FVec Ideal S2x2x1024x32x32 .f32) (ix5 b a n i l) = ((Reward.cand (bit p b) (if a.val < 1 then 0 else 1) (cell n) (i, l) : ℝ) : EReal) := by
  have h1 := one_at V n i l
  have h2 := keep_at V p hp b n i l
  unfold res_main_v21
  generalize res_main_v8 V = E at h1 ⊢
  generalize res_main_v15 V = E' at h2 ⊢
  pointwise
  unfold Reward.cand
  split
  · refine h2.trans ?_
    congr 1
    split <;> ring
  · refine (congrArg₂ (fun x y : EReal => x + y) h2 h1).trans ?_
    rw [← EReal.coe_add]
    congr 1
    split <;> ring

theorem cont_at (c : Fin 2 → Px → ℝ) (hc : ∀ b r w, cont V (ix4 b 0 r w) = (c b (r, w) : EReal)) (b a : Fin 2) (n : Fin 1024) (i l : Fin 32) :
    (res_main_v23 V : FVec Ideal S2x2x1024x32x32 .f32) (ix5 b a n i l) = ((c b (i, l) : ℝ) : EReal) := by
  unfold res_main_v23
  pointwise
  exact hc b i l

theorem prob_at (p : Fin 2 → Px → ℝ) (hp : ∀ b r w, prob V (ix4 b 0 r w) = (p b (r, w) : EReal)) (b : Fin 2) (n : Fin 1024) :
    (res_main_v149 V : FVec Ideal S2x1x1024 .f32) (ix3 b 0 n) = ((p b (cell n) : ℝ) : EReal) := by
  unfold res_main_v149
  pointwise
  exact hp b _ _

/-! ## The band -/

/-- Which tap a difference of coordinates has; six for none. -/
def sel (D : BitVec 32) : ℕ :=
  Scalar.select (IntOp.cmpi .eq D 5#32) 5 (Scalar.select (IntOp.cmpi .eq D 4#32) 4 (Scalar.select (IntOp.cmpi .eq D 3#32) 3
    (Scalar.select (IntOp.cmpi .eq D 2#32) 2 (Scalar.select (IntOp.cmpi .eq D 1#32) 1 (Scalar.select (IntOp.cmpi .eq D 0#32) 0
      (Scalar.select (IntOp.cmpi .eq D 4294967295#32) 1 (Scalar.select (IntOp.cmpi .eq D 4294967294#32) 2
        (Scalar.select (IntOp.cmpi .eq D 4294967293#32) 3 (Scalar.select (IntOp.cmpi .eq D 4294967292#32) 4
          (Scalar.select (IntOp.cmpi .eq D 4294967291#32) 5 6))))))))))

theorem sel_eq : ∀ i l : Fin 32, sel (IntOp.subi (BitVec.ofNat 32 l.val) (BitVec.ofNat 32 i.val))
    = if i.val ≤ l.val + 5 ∧ l.val ≤ i.val + 5 then dst (l.val + 5 - i.val) else 6 := by
  decide +kernel

/-- The tap of a choice. -/
def tapE : ℕ → EReal
  | 6 => 0
  | q => ((tapR q : ℝ) : EReal)

theorem select_map {α β : Type} (f : α → β) (c : BitVec 1) (x y : α) : f (Scalar.select c x y) = Scalar.select c (f x) (f y) := by
  unfold Scalar.select
  split <;> rfl

theorem dst_le (n : ℕ) (h : n ≤ 10) : dst n ≤ 5 := by
  unfold dst
  omega

theorem tapE_le (q : ℕ) (h : q ≤ 5) : tapE q = ((tapR q : ℝ) : EReal) := by
  unfold tapE
  split
  · omega
  · rfl

theorem tap4_at : (res_main_v27 V : FVec Ideal S_ .f32) ix0 = ((tapR 4 : ℝ) : EReal) := by
  have h : tapR 3 ≠ 0 := by norm_num [tapR]
  refine (hdivf_at (s := S_) (X := constant S_ .f32 0x3AE7A90F#32) (Y := constant S_ .f32 0x3D855A85#32) (i := ix0) word_prod word_tap3 h).trans ?_
  rw [mul_div_cancel_left₀ _ h]

theorem band_at (i l : Fin 32) : (res_main_v61 V : FVec Ideal S32x32 .f32) (ix2 i l) = ((band tapR i l : ℝ) : EReal) := by
  have h4 := tap4_at V
  have hD : (res_main_v26 V : IVec S32x32 32) (ix2 i l) = IntOp.subi (BitVec.ofNat 32 l.val) (BitVec.ofNat 32 i.val) := by
    unfold res_main_v26
    pointwise
  have hf : tapE (sel (IntOp.subi (BitVec.ofNat 32 l.val) (BitVec.ofNat 32 i.val))) = ((band tapR i l : ℝ) : EReal) := by
    rw [sel_eq]
    unfold band
    split
    · exact tapE_le _ (dst_le _ (by omega))
    · rfl
  rw [← hf]
  unfold res_main_v61
  generalize res_main_v27 V = E at h4 ⊢
  generalize res_main_v26 V = D at hD ⊢
  pointwise
  rw [hD]
  unfold sel
  simp only [select_map tapE]
  rw [show id (constant (F := Ideal) S_ .f32 0x3C10612B#32) ix0 = tapE 5 from word_tap5,
    show id (constant (F := Ideal) S_ .f32 0x3D855A85#32) ix0 = tapE 3 from word_tap3,
    show id (constant (F := Ideal) S_ .f32 0x3DF92326#32) ix0 = tapE 2 from word_tap2,
    show id (constant (F := Ideal) S_ .f32 0x3E353F0F#32) ix0 = tapE 1 from word_tap1,
    show id (constant (F := Ideal) S_ .f32 0x3E4D6105#32) ix0 = tapE 0 from word_tap0, h4]
  rfl

/-! ## Sums -/

/-- The low pass. -/
theorem low_at (x : FVec Ideal S2x2x1024x32x32 .f32) (f : Px → ℝ) (b a : Fin 2) (n : Fin 1024)
    (hx : ∀ i l, x (ix5 b a n i l) = (f (i, l) : EReal)) (r w : Fin 32) :
    Host.dotGeneral (φ₁ := .f32) (φ₂ := .f32) dot_S2x2x1024x32x32_S32x32_S2x2x1024x32x32_4_1_0123_0_n_n none
      (transpose S2x2x1024x32x32 [0, 1, 2, 4, 3]
        (Host.dotGeneral (φ₁ := .f32) (φ₂ := .f32) dot_S2x2x1024x32x32_S32x32_S2x2x1024x32x32_3_1_0124_0_n_n none x (res_main_v61 V))
        transposes_S2x2x1024x32x32_S2x2x1024x32x32_0_1_2_4_3) (res_main_v61 V) (ix5 b a n r w)
      = ((Reward.low (kern tapR) f (r, w) : ℝ) : EReal) := by
  have ht := band_at V
  generalize res_main_v61 V = t at ht ⊢
  pointwise
  rw [low_kern, ← coe_sum]
  refine sum_congr rfl fun k _ => ?_
  rw [EReal.coe_mul, ← coe_sum]
  refine congrArg₂ (· * ·) (sum_congr rfl fun j _ => ?_) (ht w k)
  rw [EReal.coe_mul]
  exact congrArg₂ (· * ·) (hx j k) (ht r j)

/-- A sum over the pixels of an image. -/
theorem image_sum (x : FVec Ideal S2x2x1024x32x32 .f32) (f : Px → ℝ) (b a : Fin 2) (n : Fin 1024)
    (hx : ∀ i l, x (ix5 b a n i l) = (f (i, l) : EReal)) :
    Host.reduceAdd x (constant S_ .f32 0x00000000#32) reducesTo_S2x2x1024x32x32_S2x2x1024_d3_4 h_S_ (ix3 b a n)
      = ((∑ q, f q : ℝ) : EReal) := by
  have hi : ∀ i : S2x2x1024x32x32.Idx, reducesTo_S2x2x1024x32x32_S2x2x1024_d3_4.drop i = ix3 b a n
      ↔ ∃ q : Px, ix5 b a n q.1 q.2 = i := by
    intro i
    constructor
    · intro e
      refine ⟨(i 3, i 4), funext fun d => ?_⟩
      match d with
      | 0 => exact (congrFun e 0).symm
      | 1 => exact (congrFun e 1).symm
      | 2 => exact (congrFun e 2).symm
      | 3 => rfl
      | 4 => rfl
    · rintro ⟨q, rfl⟩
      funext d
      match d with
      | 0 => rfl
      | 1 => rfl
      | 2 => rfl
  show Ideal.ofBits .f32 0x00000000#32 + ∑ i ∈ univ.filter _, x i = _
  rw [word_zero, EReal.coe_zero, zero_add]
  refine (Finset.sum_filter_eq_sum_of_fiber _ (fun q : Px => (ix5 b a n q.1 q.2 : S2x2x1024x32x32.Idx))
    (fun _ _ e => Prod.ext (congrFun e 3) (congrFun e 4)) hi x).trans ?_
  rw [← coe_sum]
  exact sum_congr rfl fun q _ => hx q.1 q.2

end Cert.Proof.Ref
-- ==== Proof.ReferenceValue.lean ====
module

public import proofs.«01_k».proof.Proof.ReferenceParts

/-!
# The reference's result on real pictures
-/

@[expose] public section

noncomputable section

namespace Cert.Proof.Ref

open Idealize.ShloMosaic Cert.ReferenceIdeal Cert.ReferenceIdeal.Value Finset Cert.ReferenceIdeal.Facts₀ Cert.ReferenceIdeal.Facts

local notation "Big" => FVec Ideal S2x2x1024x32x32 FTy.f32

/-- The value a candidate gives its pixel. -/
def side (a : Fin 2) : ℝ := if a.val < 1 then 0 else 1

/-- A candidate. -/
def candR (p : Fin 2 → Px → ℝ) (b a : Fin 2) (n : Fin 1024) : Px → ℝ := Reward.cand (bit p b) (side a) (cell n)

theorem candR_bit (p : Fin 2 → Px → ℝ) (b a : Fin 2) (n : Fin 1024) (q : Px) : candR p b a n q = 0 ∨ candR p b a n q = 1 := by
  unfold candR Reward.cand side
  split
  · split
    · exact .inl rfl
    · exact .inr rfl
  · exact bit_bit p b q

/-- The candidates' probabilities. -/
def pis (V : Valuation τ sig (Elt Ideal)) : FVec Ideal S2x2x1024 .f32 :=
  concatenate S2x2x1024 1 [⟨S2x1x1024, (subf (broadcastInDim S2x1x1024 ![] bcast_S_S2x1x1024 (constant S_ .f32 0x3F800000#32)) (res_main_v149 V))⟩, ⟨S2x1x1024, (res_main_v149 V)⟩] concatenates_S2x1x1024_S2x1x1024_S2x2x1024_d1

/-- A word in every place of the big array. -/
def bigc (w : BitVec 32) : Big := broadcastInDim S2x2x1024x32x32 ![] bcast_S_S2x2x1024x32x32 (constant S_ .f32 w)

/-- The low pass of a big array. -/
def conv (V : Valuation τ sig (Elt Ideal)) (x : Big) : Big :=
  Host.dotGeneral (φ₁ := .f32) (φ₂ := .f32) dot_S2x2x1024x32x32_S32x32_S2x2x1024x32x32_4_1_0123_0_n_n none (transpose S2x2x1024x32x32 [0, 1, 2, 4, 3] (Host.dotGeneral (φ₁ := .f32) (φ₂ := .f32) dot_S2x2x1024x32x32_S32x32_S2x2x1024x32x32_3_1_0124_0_n_n none x (res_main_v61 V)) transposes_S2x2x1024x32x32_S2x2x1024x32x32_0_1_2_4_3) (res_main_v61 V)

/-- The weighted similarity, per pixel. -/
def simil (V : Valuation τ sig (Elt Ideal)) : Big :=
  addf (mulf (res_main_v137 V) (mulf (mulf (Host.divf (addf (mulf (mulf (bigc 0x40000000#32) (res_main_v64 V)) (res_main_v67 V)) (bigc 0x38D1B717#32)) (addf (addf (mulf (res_main_v64 V) (res_main_v64 V)) (mulf (res_main_v67 V) (res_main_v67 V))) (bigc 0x38D1B717#32))) (Host.divf (addf (mulf (bigc 0x40000000#32) (res_main_v107 V)) (bigc 0x3A6BEDFA#32)) (addf (addf (res_main_v78 V) (res_main_v84 V)) (bigc 0x3A6BEDFA#32)))) (Host.divf (addf (mulf (bigc 0x40000000#32) (subf (conv V (mulf (res_main_v21 V) (res_main_v23 V))) (mulf (res_main_v64 V) (res_main_v67 V)))) (bigc 0x3A6BEDFA#32)) (addf (addf (res_main_v107 V) (bigc 0x3A6BEDFA#32)) (bigc 0x2B8CBCCC#32))))) (subf (bigc 0x3F800000#32) (res_main_v137 V))

/-- The candidates' rewards. -/
def rews (V : Valuation τ sig (Elt Ideal)) : FVec Ideal S2x2x1024 .f32 :=
  addf (Host.negf (Host.divf (Host.reduceAdd (mulf (res_main_v68 V) (res_main_v68 V)) (constant S_ .f32 0x00000000#32) reducesTo_S2x2x1024x32x32_S2x2x1024_d3_4 h_S_) (broadcastInDim S2x2x1024 ![] bcast_S_S2x2x1024 (constant S_ .f32 0x44800000#32)))) (mulf (broadcastInDim S2x2x1024 ![] bcast_S_S2x2x1024 (constant S_ .f32 0x3D75C28F#32)) (Host.divf (Host.reduceAdd (simil V) (constant S_ .f32 0x00000000#32) reducesTo_S2x2x1024x32x32_S2x2x1024_d3_4 h_S_) (broadcastInDim S2x2x1024 ![] bcast_S_S2x2x1024 (constant S_ .f32 0x44800000#32))))

/-- The reference's result. -/
def resultR (V : Valuation τ sig (Elt Ideal)) : FVec Ideal S1x1 .f32 :=
  shapeCast _ (Host.divf (Host.negf (Host.reduceAdd (mulf (pis V) (rews V)) (constant S_ .f32 0x00000000#32) reducesTo_S2x2x1024_S_d0_1_2 h_S_)) (constant S_ .f32 0x45000000#32)) shapeCasts_S_S1x1

variable (V : Valuation τ sig (Elt Ideal)) (p c : Fin 2 → Px → ℝ) (hp : ∀ b r w, prob V (ix4 b 0 r w) = (p b (r, w) : EReal))
  (hc : ∀ b r w, cont V (ix4 b 0 r w) = (c b (r, w) : EReal)) (hcb : ∀ b q, |c b q| ≤ 128) (b a : Fin 2) (n : Fin 1024) (r w : Fin 32)

theorem conv_at (x : Big) (f : Px → ℝ) (hx : ∀ i l, x (ix5 b a n i l) = (f (i, l) : EReal)) :
    conv V x (ix5 b a n r w) = ((Reward.low (kern tapR) f (r, w) : ℝ) : EReal) := low_at V x f b a n hx r w

include hp in
theorem c21 : (res_main_v21 V : Big) (ix5 b a n r w) = ((candR p b a n (r, w) : ℝ) : EReal) := cand_at V p hp b a n r w

include hc in
theorem c23 : (res_main_v23 V : Big) (ix5 b a n r w) = ((c b (r, w) : ℝ) : EReal) := cont_at V c hc b a n r w

include hp in
theorem c64 : (res_main_v64 V : Big) (ix5 b a n r w) = ((Reward.low (kern tapR) (candR p b a n) (r, w) : ℝ) : EReal) :=
  conv_at V b a n r w (res_main_v21 V) (candR p b a n) (c21 V p hp b a n)

include hc in
theorem c67 : (res_main_v67 V : Big) (ix5 b a n r w) = ((Reward.low (kern tapR) (c b) (r, w) : ℝ) : EReal) :=
  conv_at V b a n r w (res_main_v23 V) (c b) (c23 V c hc b a n)

include hp hc in
theorem c68 : (res_main_v68 V : Big) (ix5 b a n r w)
    = ((Reward.low (kern tapR) (candR p b a n) (r, w) - Reward.low (kern tapR) (c b) (r, w) : ℝ) : EReal) :=
  subf_at (s := S2x2x1024x32x32) (c64 V p hp b a n r w) (c67 V c hc b a n r w)

include hp in
theorem c78 : (res_main_v78 V : Big) (ix5 b a n r w) = ((Reward.var (kern tapR) (candR p b a n) (r, w) : ℝ) : EReal) :=
  subf_at (s := S2x2x1024x32x32)
    (conv_at V b a n r w (mulf (res_main_v21 V) (res_main_v21 V)) (fun q => candR p b a n q * candR p b a n q) fun i l =>
      mulf_at (s := S2x2x1024x32x32) (c21 V p hp b a n i l) (c21 V p hp b a n i l))
    (mulf_at (s := S2x2x1024x32x32) (c64 V p hp b a n r w) (c64 V p hp b a n r w))

include hc in
theorem c84 : (res_main_v84 V : Big) (ix5 b a n r w) = ((Reward.var (kern tapR) (c b) (r, w) : ℝ) : EReal) :=
  subf_at (s := S2x2x1024x32x32)
    (conv_at V b a n r w (mulf (res_main_v23 V) (res_main_v23 V)) (fun q => c b q * c b q) fun i l =>
      mulf_at (s := S2x2x1024x32x32) (c23 V c hc b a n i l) (c23 V c hc b a n i l))
    (mulf_at (s := S2x2x1024x32x32) (c67 V c hc b a n r w) (c67 V c hc b a n r w))

theorem bigc_at {w : BitVec 32} {x : ℝ} (h : Ideal.ofBits .f32 w = (x : EReal)) (i : S2x2x1024x32x32.Idx) : bigc w i = (x : EReal) := h

include hp hc in
theorem c107 : (res_main_v107 V : Big) (ix5 b a n r w)
    = ((Reward.sq par (Reward.var (kern tapR) (candR p b a n) (r, w)) (Reward.var (kern tapR) (c b) (r, w)) : ℝ) : EReal) :=
  hsqrt_at (s := S2x2x1024x32x32) (addf_at (s := S2x2x1024x32x32)
    (maximumf_at (s := S2x2x1024x32x32) (mulf_at (s := S2x2x1024x32x32) (c78 V p hp b a n r w) (c84 V c hc b a n r w))
      (bigc_at word_zero _)) (bigc_at word_eps _)) (le_of_lt (arg_pos _ _))

include hc in
theorem c137 : (res_main_v137 V : Big) (ix5 b a n r w) = ((Reward.weight par (kern tapR) (c b) (r, w) : ℝ) : EReal) := by
  have hd : ∀ i l, (res_main_v127 V : Big) (ix5 b a n i l) = ((c b (i, l) - Reward.low (kern tapR) (c b) (i, l) : ℝ) : EReal) := fun i l =>
    subf_at (s := S2x2x1024x32x32) (c23 V c hc b a n i l) (c67 V c hc b a n i l)
  refine minimumf_at (s := S2x2x1024x32x32) (bigc_at word_one _) (maximumf_at (s := S2x2x1024x32x32) (bigc_at word_zero _)
    (mulf_at (s := S2x2x1024x32x32) (bigc_at word_two _) (hsqrt_at (s := S2x2x1024x32x32) (addf_at (s := S2x2x1024x32x32)
      (conv_at V b a n r w (mulf (res_main_v127 V) (res_main_v127 V))
        (fun q => (c b q - Reward.low (kern tapR) (c b) q) * (c b q - Reward.low (kern tapR) (c b) q)) fun i l =>
          mulf_at (s := S2x2x1024x32x32) (hd i l) (hd i l)) (bigc_at word_eps _)) ?_)))
  have := Reward.low_sq_nonneg (kern tapR) kern_nonneg (fun q => c b q - Reward.low (kern tapR) (c b) q) (r, w)
  have := eps_pos
  linarith

include hp hc hcb in
theorem simil_at : simil V (ix5 b a n r w)
    = ((Reward.weight par (kern tapR) (c b) (r, w) * Reward.sim par (kern tapR) (c b) (candR p b a n) (r, w)
        + (1 - Reward.weight par (kern tapR) (c b) (r, w)) : ℝ) : EReal) := by
  have h64 := c64 V p hp b a n r w
  have h67 := c67 V c hc b a n r w
  have h78 := c78 V p hp b a n r w
  have h84 := c84 V c hc b a n r w
  have h107 := c107 V p c hp hc b a n r w
  have h137 := c137 V c hc b a n r w
  have hx := conv_at V b a n r w (mulf (res_main_v21 V) (res_main_v23 V)) (fun q => candR p b a n q * c b q) fun i l =>
    mulf_at (s := S2x2x1024x32x32) (c21 V p hp b a n i l) (c23 V c hc b a n i l)
  have hd := den_pos (candR p b a n) (c b) (candR_bit p b a n) (hcb b) (r, w)
  unfold simil
  generalize conv V _ = X at hx ⊢
  generalize res_main_v64 V = A at h64 ⊢
  generalize res_main_v67 V = B at h67 ⊢
  generalize res_main_v78 V = C at h78 ⊢
  generalize res_main_v84 V = D at h84 ⊢
  generalize res_main_v107 V = E at h107 ⊢
  generalize res_main_v137 V = G at h137 ⊢
  have e1 := hdivf_at (addf_at (mulf_at (mulf_at (bigc_at word_two (ix5 b a n r w)) h64) h67) (bigc_at word_c1 (ix5 b a n r w)))
    (addf_at (addf_at (mulf_at h64 h64) (mulf_at h67 h67)) (bigc_at word_c1 (ix5 b a n r w))) (ne_of_gt (d1_pos _ _))
  have e2 := hdivf_at (addf_at (mulf_at (bigc_at word_two (ix5 b a n r w)) h107) (bigc_at word_c2 (ix5 b a n r w)))
    (addf_at (addf_at h78 h84) (bigc_at word_c2 (ix5 b a n r w))) (ne_of_gt hd)
  have e3 := hdivf_at (addf_at (mulf_at (bigc_at word_two (ix5 b a n r w)) (subf_at hx (mulf_at h64 h67))) (bigc_at word_c2 (ix5 b a n r w)))
    (addf_at (addf_at h107 (bigc_at word_c2 (ix5 b a n r w))) (bigc_at word_eps (ix5 b a n r w))) (ne_of_gt (d3_pos _ _))
  exact addf_at (mulf_at h137 (mulf_at (mulf_at e1 e2) e3)) (subf_at (bigc_at word_one (ix5 b a n r w)) h137)

include hp hc hcb in
theorem rews_at : rews V (ix3 b a n) = ((Reward.rew par (kern tapR) 1024 (c b) (candR p b a n) : ℝ) : EReal) := by
  have h1 := image_sum (mulf (res_main_v68 V) (res_main_v68 V))
    (fun q => (Reward.low (kern tapR) (candR p b a n) q - Reward.low (kern tapR) (c b) q)
      * (Reward.low (kern tapR) (candR p b a n) q - Reward.low (kern tapR) (c b) q)) b a n fun i l =>
    mulf_at (s := S2x2x1024x32x32) (c68 V p c hp hc b a n i l) (c68 V p c hp hc b a n i l)
  have h2 := image_sum (simil V)
    (fun q => Reward.weight par (kern tapR) (c b) q * Reward.sim par (kern tapR) (c b) (candR p b a n) q
        + (1 - Reward.weight par (kern tapR) (c b) q)) b a n fun i l => simil_at V p c hp hc hcb b a n i l
  have hb : ∀ {w : BitVec 32} {x : ℝ}, Ideal.ofBits .f32 w = (x : EReal) →
      broadcastInDim S2x2x1024 ![] bcast_S_S2x2x1024 (constant (F := Ideal) S_ .f32 w) (ix3 b a n) = (x : EReal) := fun h => h
  have h0 : (1024 : ℝ) ≠ 0 := by norm_num
  exact addf_at (hnegf_at (hdivf_at h1 (hb word_1024) h0)) (mulf_at (hb word_ws) (hdivf_at h2 (hb word_1024) h0))

include hp in
theorem pis_at : pis V (ix3 b a n) = ((if a.val < 1 then 1 - p b (cell n) else p b (cell n) : ℝ) : EReal) := by
  have h := prob_at V p hp b n
  unfold pis
  generalize res_main_v149 V = E at h ⊢
  pointwise
  have hz : ∀ x : Fin 1, x = 0 := fun x => Subsingleton.elim _ _
  split
  · rw [hz ⟨a.val, _⟩]
    refine (congrArg (fun x : EReal => 1 - x) h).trans ?_
    rw [EReal.coe_sub, EReal.coe_one]
  · rw [hz ⟨a.val - 1, _⟩]
    exact h

theorem cell_bijective : Function.Bijective cell := by
  constructor
  · intro m n h
    have h1 : m.val / 32 = n.val / 32 := congrArg (fun q : Px => q.1.val) h
    have h2 : m.val % 32 = n.val % 32 := congrArg (fun q : Px => q.2.val) h
    exact Fin.ext (by omega)
  · rintro ⟨i, l⟩
    refine ⟨⟨i.val * 32 + l.val, by omega⟩, Prod.ext (Fin.ext ?_) (Fin.ext ?_)⟩
    · show (i.val * 32 + l.val) / 32 = i.val
      omega
    · show (i.val * 32 + l.val) % 32 = l.val
      omega

theorem expect : ∑ a : Fin 2, ∑ n, (if a.val < 1 then 1 - p b (cell n) else p b (cell n)) * Reward.rew par (kern tapR) 1024 (c b) (candR p b a n)
    = ∑ q, (Reward.base par (kern tapR) (c b) (bit p b) q
        + (bit p b q + Reward.dir (bit p b) q * p b q) * Reward.gain par (kern tapR) (fun q p => near p q) 1024 (c b) (bit p b) q) := by
  rw [← Reward.expected par (kern tapR) (fun q p => near p q) 1024 (c b) (bit p b) (kern_symm tapR)
    (fun x y h => kern_far tapR x y h) (bit_bit p b) (by simp) (by norm_num) (p b)]
  rw [Fin.sum_univ_two, ← sum_add_distrib]
  exact Fintype.sum_bijective cell cell_bijective _ _ fun n => rfl

include hp hc hcb in
/-- The reference's result. -/
theorem result_at (i : S1x1.Idx) : resultR V i = ((loss c (bit p) p : ℝ) : EReal) := by
  have h := fun b a n => mulf_at (pis_at V p hp b a n) (rews_at V p c hp hc hcb b a n)
  unfold resultR
  generalize mulf (pis V) (rews V) = X at h ⊢
  pointwise
  simp only [h, coe_sum]
  rw [word_2048, ← EReal.coe_neg, div_real (by norm_num)]
  congr 1
  unfold loss
  rw [sum_congr rfl fun b _ => expect p c b]
  ring

end Cert.Proof.Ref
-- ==== Proof.Thresholds.lean ====
module

public import proofs.«01_k».proof.Proof.Launch
public import proofs.«01_k».proof.Proof.ReferenceValue

/-!
# The two tables of thresholds

The kernel's packed table has the reference's thresholds in its lanes and one around them.
-/

@[expose] public section

noncomputable section

namespace Cert.Proof

open Idealize.ShloMosaic Cert.KernelIdeal Finset

theorem table_lane : ∀ (r : Fin 32) (b : Fin 2) (w : Fin 32),
    lit0t (r.val * 128 + (lane b w).val) = Cert.ReferenceIdeal.lit0t ((b.val * 32 + r.val) * 32 + w.val) := by
  decide +kernel

theorem table_outside : ∀ (r : Fin 32) (l : Fin 128), ¬ inside l → lit0t (r.val * 128 + l.val) = 0x3F800000#32 := by
  decide +kernel

theorem thr_at (r : Fin 32) (l : Fin 128) : thr (F := Ideal) (ix2 r l) = Ideal.ofBits .f32 (lit0t (r.val * 128 + l.val)) := by
  show Ideal.ofBits .f32 (lit0t (S32x128.rowMajor (ix2 r l)).val) = _
  rw [Shape.rowMajor_val_two]
  rfl

theorem thr_lane (r : Fin 32) (b : Fin 2) (w : Fin 32) : thr (F := Ideal) (ix2 r (lane b w)) = Ref.thrE b (r, w) := by
  rw [thr_at, table_lane]
  show _ = Ideal.ofBits .f32 (Cert.ReferenceIdeal.lit0t (Cert.ReferenceIdeal.S2x1x32x32.rowMajor (ix4 b 0 r w)).val)
  rw [Shape.rowMajor_val_four]
  congr 2
  show (b.val * 32 + r.val) * 32 + w.val = ((b.val * 1 + 0) * 32 + r.val) * 32 + w.val
  omega

end Cert.Proof
-- ==== Proof.KernelResult.lean ====
module

public import proofs.«01_k».proof.Proof.Thresholds

/-!
# The kernel's result from its arguments
-/

@[expose] public section

noncomputable section

namespace Cert.Proof

open Idealize.ShloMosaic Cert.KernelIdeal VecWindow Finset

theorem flat_at (x : Vec Ideal S2x1x32x32 .f32) (b : Fin 2) (r w : Fin 32) : flat x (ix3 b r w) = x (ix4 b 0 r w) := by
  unfold flat
  pointwise

theorem images_left (X : Vec Ideal S2x32x32 .f32) (r w : Fin 32) : (imagesV X).1 (ix2 r w) = X (ix3 0 r w) := by
  unfold imagesV
  pointwise
  exact window_at (s := S2x32x32) _ _ _ _ _ _ (fun
    | 0 => rfl
    | 1 => (Nat.zero_add _).symm
    | 2 => (Nat.zero_add _).symm)

theorem images_right (X : Vec Ideal S2x32x32 .f32) (r w : Fin 32) : (imagesV X).2 (ix2 r w) = X (ix3 1 r w) := by
  unfold imagesV
  pointwise
  exact window_at (s := S2x32x32) _ _ _ _ _ _ (fun
    | 0 => rfl
    | 1 => (Nat.zero_add _).symm
    | 2 => (Nat.zero_add _).symm)

/-- The packed picture of real images. -/
theorem holds_picture (x : Vec Ideal S2x1x32x32 .f32) (f : Fin 2 → Px → ℝ) (h : ∀ b r w, x (ix4 b 0 r w) = (f b (r, w) : EReal)) :
    Holds (packedV (flat x)) f :=
  holds_pack (fun r w => (images_left _ r w).trans ((flat_at x 0 r w).trans (h 0 r w)))
    (fun r w => (images_right _ r w).trans ((flat_at x 1 r w).trans (h 1 r w)))

/-- The packed halftone. -/
theorem holds_halftone {Q : FVec Ideal S32x128 .f32} {p : Fin 2 → Px → ℝ} (hQ : Holds Q p) : Holds (hOf (thr (F := Ideal)) Q) (Ref.bit p) := by
  constructor
  · intro r b w
    show Scalar.select (Ideal.cmp .olt (thr (F := Ideal) (ix2 r (lane b w))) (Q (ix2 r (lane b w))))
      (Ideal.ofBits .f32 0x3F800000#32) (Ideal.ofBits .f32 0x00000000#32) = _
    rw [thr_lane, hQ.on, word_one, word_zero]
    unfold Ref.bit
    show Scalar.select (BitVec.ofBool (decide (Ref.thrE b (r, w) < (p b (r, w) : EReal)))) _ _ = _
    by_cases h : Ref.thrE b (r, w) < (p b (r, w) : EReal)
    · simp [h, Scalar.select]
    · simp [h, Scalar.select]
  · intro r l hl
    show Scalar.select (Ideal.cmp .olt (thr (F := Ideal) (ix2 r l)) (Q (ix2 r l)))
      (Ideal.ofBits .f32 0x3F800000#32) (Ideal.ofBits .f32 0x00000000#32) = _
    rw [thr_at, table_outside r l hl, hQ.off r l hl, word_one, word_zero]
    have h : ¬ ((1 : ℝ) : EReal) < 0 := by
      rw [← EReal.coe_zero, EReal.coe_lt_coe_iff]
      norm_num
    show Scalar.select (BitVec.ofBool (decide (((1 : ℝ) : EReal) < 0))) _ _ = _
    rw [decide_eq_false h]
    rfl

/-- The kernel's result. -/
theorem kernel_result (x y : Vec Ideal S2x1x32x32 .f32) (p c : Fin 2 → Px → ℝ) (hp : ∀ b r w, x (ix4 b 0 r w) = (p b (r, w) : EReal))
    (hc : ∀ b r w, y (ix4 b 0 r w) = (c b (r, w) : EReal)) (hcb : ∀ b q, |c b q| ≤ 128) (i : S1x1.Idx) :
    result x y i = ((loss c (Ref.bit p) p : ℝ) : EReal) :=
  out_eq (holds_halftone (holds_picture x p hp)) (holds_picture y c hc) (holds_picture x p hp) (Ref.bit_bit p) hcb i

end Cert.Proof
-- ==== Proof.Algebraic.lean ====
module

public import proofs.«01_k».proof.Defs
public import proofs.«01_k».proof.Proof.KernelResult
public import proofs.«01_k».proof.Proof.Range

/-!
# The kernel and the reference agree
-/

@[expose] public section

noncomputable section

namespace Cert.Proof

open Idealize.ShloMosaic Idealize.SL.Sem

/-- The real numbers in a picture. -/
def realOf (x : FVec Ideal Cert.KernelIdeal.S2x1x32x32 .f32) (b : Fin 2) (q : Px) : ℝ := (x (ix4 b 0 q.1 q.2)).toReal

/-- The two results are equal, the precondition given. -/
theorem results_eq (V : Valuation Cert.ReferenceIdeal.τ Cert.ReferenceIdeal.sig (Elt Ideal))
    (x y z : FVec Ideal Cert.KernelIdeal.S2x1x32x32 .f32) (hx : Ref.prob V = x) (hy : Ref.cont V = y)
    (h : Cert.Pre_in_range.fn x y z = fun _ => 1#1) : Ref.resultR V = result (F := Ideal) x y := by
  funext i
  have hp : ∀ b r w, x (ix4 b 0 r w) = (realOf x b (r, w) : EReal) := fun b r w => prob_real x y z h b r w
  have hc : ∀ b r w, y (ix4 b 0 r w) = (realOf y b (r, w) : EReal) := fun b r w => (image_real x y z h b r w).1
  have hb : ∀ b q, |realOf y b q| ≤ 128 := fun b q => (image_real x y z h b q.1 q.2).2
  refine (Ref.result_at V (realOf x) (realOf y) (fun b r w => ?_) (fun b r w => ?_) hb i).trans
    (kernel_result x y (realOf x) (realOf y) hp hc hb i).symm
  · rw [hx]
    exact hp b r w
  · rw [hy]
    exact hc b r w

theorem algebraic : Cert.algebraic_KernelIdeal_ReferenceIdeal_pre_in_range := by
  intro m g m' g' hpre hm
  have h : ∀ c, Ref.resultR (StableHlo.launchContents m' c) = res m c := fun c =>
    results_eq (StableHlo.launchContents m' c) _ _ _ (hm c).1 (hm c).2.1 (hpre c)
  exact ⟨res m, kernel_run m g, (θ_run Cert.ReferenceIdeal.defs _ _).mono (fun r hr c => ⟨(hr c).1.trans (h c), (hr c).2⟩)
    (Cert.ReferenceIdeal.Value.run (F := Ideal) m' g')⟩

end Cert.Proof
-- ==== Proof.lean ====
module

public import proofs.«01_k».proof.Defs
public import proofs.«01_k».proof.Proof.Preserves
public import proofs.«01_k».proof.Proof.Frames
public import proofs.«01_k».proof.Proof.Algebraic
public import Idealize.ShloMosaic.Adequacy
public import Idealize.ShloMosaic.Init

/-!
# The claim
-/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, range_facts,
    frame_kernel, frame_ideal, frame_ideal_range, frame_reference, frame_reference_range, preserves, algebraic⟩

end Cert.Proof

end
